-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v10_0)) (v4 : (c : Dev Cert.KernelIdeal.nD) → Buf (Elt Ideal) ((c.tc : Thread Cert.KernelIdeal.nD Cert.KernelIdeal.τ).loc Cert.KernelIdeal.main_v10_1)) (v5 : (c : Dev Cert.KernelIdeal.nD) → Buf (Elt Ideal) ((c.tc : Thread Cert.KernelIdeal.nD Cert.KernelIdeal.τ).loc Cert.KernelIdeal.main_v9_0)) (v6 : (c : Dev Cert.KernelIdeal.nD) → Buf (Elt Ideal) ((c.tc : Thread Cert.KernelIdeal.nD Cert.KernelIdeal.τ).loc Cert.KernelIdeal.main_v9_1)) (v7 : (c : Dev Cert.KernelIdeal.nD) → Buf (Elt Ideal) ((c.tc : Thread Cert.KernelIdeal.nD Cert.KernelIdeal.τ).loc Cert.KernelIdeal.main_v8_3)) (v8 : (c : Dev Cert.KernelIdeal.nD) → Buf (Elt Ideal) ((c.tc : Thread Cert.KernelIdeal.nD Cert.KernelIdeal.τ).loc Cert.KernelIdeal.main_v8_4)) (v9 : (c : Dev Cert.KernelIdeal.nD) → Buf (Elt Ideal) ((c.tc : Thread Cert.KernelIdeal.nD Cert.KernelIdeal.τ).loc Cert.KernelIdeal.main_v8_5)) (v10 : (c : Dev Cert.KernelIdeal.nD) → Buf (Elt Ideal) ((c.tc : Thread Cert.KernelIdeal.nD Cert.KernelIdeal.τ).loc Cert.KernelIdeal.main_v11)) (v11 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v10_0) = v3 c
          ∧ r.2.mem ((c.tc : Thread Cert.KernelIdeal.nD Cert.KernelIdeal.τ).loc Cert.KernelIdeal.main_v10_1) = v4 c
          ∧ r.2.mem ((c.tc : Thread Cert.KernelIdeal.nD Cert.KernelIdeal.τ).loc Cert.KernelIdeal.main_v9_0) = v5 c
          ∧ r.2.mem ((c.tc : Thread Cert.KernelIdeal.nD Cert.KernelIdeal.τ).loc Cert.KernelIdeal.main_v9_1) = v6 c
          ∧ r.2.mem ((c.tc : Thread Cert.KernelIdeal.nD Cert.KernelIdeal.τ).loc Cert.KernelIdeal.main_v8_3) = v7 c
          ∧ r.2.mem ((c.tc : Thread Cert.KernelIdeal.nD Cert.KernelIdeal.τ).loc Cert.KernelIdeal.main_v8_4) = v8 c
          ∧ r.2.mem ((c.tc : Thread Cert.KernelIdeal.nD Cert.KernelIdeal.τ).loc Cert.KernelIdeal.main_v8_5) = v9 c
          ∧ r.2.mem ((c.tc : Thread Cert.KernelIdeal.nD Cert.KernelIdeal.τ).loc Cert.KernelIdeal.main_v11) = v10 c
          ∧ r.2.mem ((c.tc : Thread Cert.KernelIdeal.nD Cert.KernelIdeal.τ).loc Cert.KernelIdeal.main_v12) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v90) = v4 c
          ∧ r.2.mem ((c.tc : Thread Cert.ReferenceIdeal.nD Cert.ReferenceIdeal.τ).loc Cert.ReferenceIdeal.main_v80) = v5 c
          ∧ r.2.mem ((c.tc : Thread Cert.ReferenceIdeal.nD Cert.ReferenceIdeal.τ).loc Cert.ReferenceIdeal.main_v82) = v6 c
          ∧ r.2.mem ((c.tc : Thread Cert.ReferenceIdeal.nD Cert.ReferenceIdeal.τ).loc Cert.ReferenceIdeal.main_v35) = v7 c
          ∧ r.2.mem ((c.tc : Thread Cert.ReferenceIdeal.nD Cert.ReferenceIdeal.τ).loc Cert.ReferenceIdeal.main_v56) = v8 c
          ∧ r.2.mem ((c.tc : Thread Cert.ReferenceIdeal.nD Cert.ReferenceIdeal.τ).loc Cert.ReferenceIdeal.main_v77) = v9 c
          ∧ r.2.mem ((c.tc : Thread Cert.ReferenceIdeal.nD Cert.ReferenceIdeal.τ).loc Cert.ReferenceIdeal.main_v114) = v10 c
          ∧ r.2.mem ((c.tc : Thread Cert.ReferenceIdeal.nD Cert.ReferenceIdeal.τ).loc Cert.ReferenceIdeal.main_v138) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4096x3000 : Shape := ⟨2, ![4096, 3000]⟩
abbrev S4096x4096 : Shape := ⟨2, ![4096, 4096]⟩
abbrev S3000x64 : Shape := ⟨2, ![3000, 64]⟩
abbrev S64x3000 : Shape := ⟨2, ![64, 3000]⟩
abbrev S64x64 : Shape := ⟨2, ![64, 64]⟩
abbrev S64x1 : Shape := ⟨2, ![64, 1]⟩
abbrev S50x64 : Shape := ⟨2, ![50, 64]⟩
abbrev S50 : Shape := ⟨1, ![50]⟩
abbrev S100x50 : Shape := ⟨2, ![100, 50]⟩
abbrev S100 : Shape := ⟨1, ![100]⟩
abbrev S1x100 : Shape := ⟨2, ![1, 100]⟩
abbrev S1 : Shape := ⟨1, ![1]⟩
abbrev S_ : Shape := ⟨0, ![]⟩

class Facts : Prop where
  bcast_S_S4096x3000 : S_.BroadcastsInDim S4096x3000 (![] : Fin 0 → Fin S4096x3000.rank)
  bcast_S_S4096x4096 : S_.BroadcastsInDim S4096x4096 (![] : Fin 0 → Fin S4096x4096.rank)
  bcast_S_S3000x64 : S_.BroadcastsInDim S3000x64 (![] : Fin 0 → Fin S3000x64.rank)
  bcast_S_S64x3000 : S_.BroadcastsInDim S64x3000 (![] : Fin 0 → Fin S64x3000.rank)
  bcast_S_S64x1 : S_.BroadcastsInDim S64x1 (![] : Fin 0 → Fin S64x1.rank)

variable [Facts]

def fn_part2 {F : FTy → Type} [FloatOps F] (main_arg15 : FVec F S64x1 .f32) (main_v2 : IVec S4096x3000 1) (main_v5 : IVec S4096x3000 1) (main_v8 : IVec S4096x4096 1) (main_v11 : IVec S4096x4096 1) (main_v14 : IVec S4096x4096 1) (main_v17 : IVec S4096x4096 1) (main_v20 : IVec S3000x64 1) (main_v23 : IVec S64x3000 1) (main_v26 : IVec S3000x64 1) (main_v29 : IVec S64x3000 1) (main_v32 : IVec S64x1 1) (main_v35 : IVec S64x1 1) : IVec S4096x3000 1 × IVec S4096x3000 1 × IVec S4096x4096 1 × IVec S4096x4096 1 × IVec S4096x4096 1 × IVec S4096x4096 1 × IVec S3000x64 1 × IVec S64x3000 1 × IVec S3000x64 1 × IVec S64x3000 1 × IVec S64x1 1 × IVec S64x1 1 × IVec S64x1 1 :=
  let main_v36 : FVec F S64x1 .f32 := Host.absf main_arg15
  let main_cst_11 : FVec F S_ .f32 := constant S_ .f32 0x7F800000#32
  let main_v37 : FVec F S64x1 .f32 := broadcastInDim S64x1 ![] bcast_S_S64x1 main_cst_11
  let main_v38 : IVec S64x1 1 := cmpf .olt main_v36 main_v37
  (main_v2, main_v5, main_v8, main_v11, main_v14, main_v17, main_v20, main_v23, main_v26, main_v29, main_v32, main_v35, main_v38)

def fn_part1 {F : FTy → Type} [FloatOps F] (main_arg6 : FVec F S3000x64 .f32) (main_arg7 : FVec F S64x3000 .f32) (main_arg8 : FVec F S3000x64 .f32) (main_arg9 : FVec F S64x3000 .f32) (main_arg11 : FVec F S64x1 .f32) (main_arg13 : FVec F S64x1 .f32) (main_arg15 : FVec F S64x1 .f32) (main_v2 : IVec S4096x3000 1) (main_v5 : IVec S4096x3000 1) (main_v8 : IVec S4096x4096 1) (main_v11 : IVec S4096x4096 1) (main_v14 : IVec S4096x4096 1) (main_v17 : IVec S4096x4096 1) : IVec S4096x3000 1 × IVec S4096x3000 1 × IVec S4096x4096 1 × IVec S4096x4096 1 × IVec S4096x4096 1 × IVec S4096x4096 1 × IVec S3000x64 1 × IVec S64x3000 1 × IVec S3000x64 1 × IVec S64x3000 1 × IVec S64x1 1 × IVec S64x1 1 × IVec S64x1 1 :=
  let main_v18 : FVec F S3000x64 .f32 := Host.absf main_arg6
  let main_cst_5 : FVec F S_ .f32 := constant S_ .f32 0x7F800000#32
  let main_v19 : FVec F S3000x64 .f32 := broadcastInDim S3000x64 ![] bcast_S_S3000x64 main_cst_5
  let main_v20 : IVec S3000x64 1 := cmpf .olt main_v18 main_v19
  let main_v21 : FVec F S64x3000 .f32 := Host.absf main_arg7
  let main_cst_6 : FVec F S_ .f32 := constant S_ .f32 0x7F800000#32
  let main_v22 : FVec F S64x3000 .f32 := broadcastInDim S64x3000 ![] bcast_S_S64x3000 main_cst_6
  let main_v23 : IVec S64x3000 1 := cmpf .olt main_v21 main_v22
  let main_v24 : FVec F S3000x64 .f32 := Host.absf main_arg8
  let main_cst_7 : FVec F S_ .f32 := constant S_ .f32 0x7F800000#32
  let main_v25 : FVec F S3000x64 .f32 := broadcastInDim S3000x64 ![] bcast_S_S3000x64 main_cst_7
  let main_v26 : IVec S3000x64 1 := cmpf .olt main_v24 main_v25
  let main_v27 : FVec F S64x3000 .f32 := Host.absf main_arg9
  let main_cst_8 : FVec F S_ .f32 := constant S_ .f32 0x7F800000#32
  let main_v28 : FVec F S64x3000 .f32 := broadcastInDim S64x3000 ![] bcast_S_S64x3000 main_cst_8
  let main_v29 : IVec S64x3000 1 := cmpf .olt main_v27 main_v28
  let main_v30 : FVec F S64x1 .f32 := Host.absf main_arg11
  let main_cst_9 : FVec F S_ .f32 := constant S_ .f32 0x7F800000#32
  let main_v31 : FVec F S64x1 .f32 := broadcastInDim S64x1 ![] bcast_S_S64x1 main_cst_9
  let main_v32 : IVec S64x1 1 := cmpf .olt main_v30 main_v31
  let main_v33 : FVec F S64x1 .f32 := Host.absf main_arg13
  let main_cst_10 : FVec F S_ .f32 := constant S_ .f32 0x7F800000#32
  let main_v34 : FVec F S64x1 .f32 := broadcastInDim S64x1 ![] bcast_S_S64x1 main_cst_10
  let main_v35 : IVec S64x1 1 := cmpf .olt main_v33 main_v34
  fn_part2 (F := F) main_arg15 main_v2 main_v5 main_v8 main_v11 main_v14 main_v17 main_v20 main_v23 main_v26 main_v29 main_v32 main_v35

def fn {F : FTy → Type} [FloatOps F] (main_arg0 : FVec F S4096x3000 .f32) (main_arg1 : FVec F S4096x3000 .f32) (main_arg2 : FVec F S4096x4096 .f32) (main_arg3 : FVec F S4096x4096 .f32) (main_arg4 : FVec F S4096x4096 .f32) (main_arg5 : FVec F S4096x4096 .f32) (main_arg6 : FVec F S3000x64 .f32) (main_arg7 : FVec F S64x3000 .f32) (main_arg8 : FVec F S3000x64 .f32) (main_arg9 : FVec F S64x3000 .f32) (main_arg10 : FVec F S64x64 .f32) (main_arg11 : FVec F S64x1 .f32) (main_arg12 : FVec F S64x64 .f32) (main_arg13 : FVec F S64x1 .f32) (main_arg14 : FVec F S64x64 .f32) (main_arg15 : FVec F S64x1 .f32) (main_arg16 : FVec F S50x64 .f32) (main_arg17 : FVec F S50 .f32) (main_arg18 : FVec F S100x50 .f32) (main_arg19 : FVec F S100 .f32) (main_arg20 : FVec F S1x100 .f32) (main_arg21 : FVec F S1 .f32) : IVec S4096x3000 1 × IVec S4096x3000 1 × IVec S4096x4096 1 × IVec S4096x4096 1 × IVec S4096x4096 1 × IVec S4096x4096 1 × IVec S3000x64 1 × IVec S64x3000 1 × IVec S3000x64 1 × IVec S64x3000 1 × IVec S64x1 1 × IVec S64x1 1 × IVec S64x1 1 :=
  let main_v0 : FVec F S4096x3000 .f32 := Host.absf main_arg0
  let main_cst : FVec F S_ .f32 := constant S_ .f32 0x7F800000#32
  let main_v1 : FVec F S4096x3000 .f32 := broadcastInDim S4096x3000 ![] bcast_S_S4096x3000 main_cst
  let main_v2 : IVec S4096x3000 1 := cmpf .olt main_v0 main_v1
  let main_v3 : FVec F S4096x3000 .f32 := Host.absf main_arg1
  let main_cst_0 : FVec F S_ .f32 := constant S_ .f32 0x7F800000#32
  let main_v4 : FVec F S4096x3000 .f32 := broadcastInDim S4096x3000 ![] bcast_S_S4096x3000 main_cst_0
  let main_v5 : IVec S4096x3000 1 := cmpf .olt main_v3 main_v4
  let main_v6 : FVec F S4096x4096 .f32 := Host.absf main_arg2
  let main_cst_1 : FVec F S_ .f32 := constant S_ .f32 0x7F800000#32
  let main_v7 : FVec F S4096x4096 .f32 := broadcastInDim S4096x4096 ![] bcast_S_S4096x4096 main_cst_1
  let main_v8 : IVec S4096x4096 1 := cmpf .olt main_v6 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_v12 : FVec F S4096x4096 .f32 := Host.absf main_arg4
  let main_cst_3 : FVec F S_ .f32 := constant S_ .f32 0x7F800000#32
  let main_v13 : FVec F S4096x4096 .f32 := broadcastInDim S4096x4096 ![] bcast_S_S4096x4096 main_cst_3
  let main_v14 : IVec S4096x4096 1 := cmpf .olt main_v12 main_v13
  let main_v15 : FVec F S4096x4096 .f32 := Host.absf main_arg5
  let main_cst_4 : FVec F S_ .f32 := constant S_ .f32 0x7F800000#32
  let main_v16 : FVec F S4096x4096 .f32 := broadcastInDim S4096x4096 ![] bcast_S_S4096x4096 main_cst_4
  let main_v17 : IVec S4096x4096 1 := cmpf .olt main_v15 main_v16
  fn_part1 (F := F) main_arg6 main_arg7 main_arg8 main_arg9 main_arg11 main_arg13 main_arg15 main_v2 main_v5 main_v8 main_v11 main_v14 main_v17
-- ==== Kernel.lean ====
abbrev S4096x3000 : Shape := ⟨2, ![4096, 3000]⟩
abbrev S4096x4096 : Shape := ⟨2, ![4096, 4096]⟩
abbrev S3000x64 : Shape := ⟨2, ![3000, 64]⟩
abbrev S64x3000 : Shape := ⟨2, ![64, 3000]⟩
abbrev S64x64 : Shape := ⟨2, ![64, 64]⟩
abbrev S64x1 : Shape := ⟨2, ![64, 1]⟩
abbrev S50x64 : Shape := ⟨2, ![50, 64]⟩
abbrev S50 : Shape := ⟨1, ![50]⟩
abbrev S100x50 : Shape := ⟨2, ![100, 50]⟩
abbrev S100 : Shape := ⟨1, ![100]⟩
abbrev S1x100 : Shape := ⟨2, ![1, 100]⟩
abbrev S1 : Shape := ⟨1, ![1]⟩
abbrev S4096x64 : Shape := ⟨2, ![4096, 64]⟩
abbrev S256x3000 : Shape := ⟨2, ![256, 3000]⟩
abbrev S256x64 : Shape := ⟨2, ![256, 64]⟩
abbrev S64x50 : Shape := ⟨2, ![64, 50]⟩
abbrev S1x50 : Shape := ⟨2, ![1, 50]⟩
abbrev S50x100 : Shape := ⟨2, ![50, 100]⟩
abbrev S100x1 : Shape := ⟨2, ![100, 1]⟩
abbrev S1x1 : Shape := ⟨2, ![1, 1]⟩
abbrev S4096x2 : Shape := ⟨2, ![4096, 2]⟩
abbrev S4096x1 : Shape := ⟨2, ![4096, 1]⟩
abbrev S4096x128 : Shape := ⟨2, ![4096, 128]⟩
abbrev S256x4096 : Shape := ⟨2, ![256, 4096]⟩
abbrev S256x2 : Shape := ⟨2, ![256, 2]⟩
abbrev S256x1 : Shape := ⟨2, ![256, 1]⟩
abbrev S256x128 : Shape := ⟨2, ![256, 128]⟩
abbrev S256x50 : Shape := ⟨2, ![256, 50]⟩
abbrev S256x100 : Shape := ⟨2, ![256, 100]⟩
abbrev S4096 : Shape := ⟨1, ![4096]⟩

abbrev nBuf : Space → Nat
  | .hbm => 52
  | .vmem => 90
  | .smem => 0
  | _ => 0

abbrev bufTy : (tb : Table) → Fin (tcTables nBuf tb) → BufTy
  | .hbm, ⟨0, _⟩ => ⟨S4096x3000, .f32⟩
  | .hbm, ⟨1, _⟩ => ⟨S4096x3000, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S3000x64, .f32⟩
  | .hbm, ⟨7, _⟩ => ⟨S64x3000, .f32⟩
  | .hbm, ⟨8, _⟩ => ⟨S3000x64, .f32⟩
  | .hbm, ⟨9, _⟩ => ⟨S64x3000, .f32⟩
  | .hbm, ⟨10, _⟩ => ⟨S64x64, .f32⟩
  | .hbm, ⟨11, _⟩ => ⟨S64x1, .f32⟩
  | .hbm, ⟨12, _⟩ => ⟨S64x64, .f32⟩
  | .hbm, ⟨13, _⟩ => ⟨S64x1, .f32⟩
  | .hbm, ⟨14, _⟩ => ⟨S64x64, .f32⟩
  | .hbm, ⟨15, _⟩ => ⟨S64x1, .f32⟩
  | .hbm, ⟨16, _⟩ => ⟨S50x64, .f32⟩
  | .hbm, ⟨17, _⟩ => ⟨S50, .f32⟩
  | .hbm, ⟨18, _⟩ => ⟨S100x50, .f32⟩
  | .hbm, ⟨19, _⟩ => ⟨S100, .f32⟩
  | .hbm, ⟨20, _⟩ => ⟨S1x100, .f32⟩
  | .hbm, ⟨21, _⟩ => ⟨S1, .f32⟩
  | .hbm, ⟨22, _⟩ => ⟨S64x64, .f32⟩
  | .hbm, ⟨23, _⟩ => ⟨S64x64, .f32⟩
  | .hbm, ⟨24, _⟩ => ⟨S4096x64, .f32⟩
  | .hbm, ⟨25, _⟩ => ⟨S4096x64, .f32⟩
  | .hbm, ⟨26, _⟩ => ⟨S64x50, .f32⟩
  | .hbm, ⟨27, _⟩ => ⟨S1x50, .f32⟩
  | .hbm, ⟨28, _⟩ => ⟨S50x100, .f32⟩
  | .hbm, ⟨29, _⟩ => ⟨S1x100, .f32⟩
  | .hbm, ⟨30, _⟩ => ⟨S100x1, .f32⟩
  | .hbm, ⟨31, _⟩ => ⟨S1x1, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S4096x2, .f32⟩
  | .hbm, ⟨36, _⟩ => ⟨S4096x2, .f32⟩
  | .hbm, ⟨37, _⟩ => ⟨S4096x2, .f32⟩
  | .hbm, ⟨38, _⟩ => ⟨S4096x1, .f32⟩
  | .hbm, ⟨39, _⟩ => ⟨S4096x1, .f32⟩
  | .hbm, ⟨40, _⟩ => ⟨S4096x4096, .bf16⟩
  | .hbm, ⟨41, _⟩ => ⟨S4096x4096, .bf16⟩
  | .hbm, ⟨42, _⟩ => ⟨S4096x128, .bf16⟩
  | .hbm, ⟨43, _⟩ => ⟨S4096x128, .bf16⟩
  | .hbm, ⟨44, _⟩ => ⟨S4096x3000, .f32⟩
  | .hbm, ⟨45, _⟩ => ⟨S4096x3000, .f32⟩
  | .hbm, ⟨46, _⟩ => ⟨S4096x64, .f32⟩
  | .hbm, ⟨47, _⟩ => ⟨S4096x64, .f32⟩
  | .hbm, ⟨48, _⟩ => ⟨S4096x64, .f32⟩
  | .hbm, ⟨49, _⟩ => ⟨S4096x64, .f32⟩
  | .hbm, ⟨50, _⟩ => ⟨S4096, .f32⟩
  | .hbm, ⟨51, _⟩ => ⟨S4096, .f32⟩
  | .local _ .vmem, ⟨0, _⟩ => ⟨S64x3000, .f32⟩
  | .local _ .vmem, ⟨1, _⟩ => ⟨S3000x64, .f32⟩
  | .local _ .vmem, ⟨2, _⟩ => ⟨S64x3000, .f32⟩
  | .local _ .vmem, ⟨3, _⟩ => ⟨S3000x64, .f32⟩
  | .local _ .vmem, ⟨4, _⟩ => ⟨S64x64, .f32⟩
  | .local _ .vmem, ⟨5, _⟩ => ⟨S64x64, .f32⟩
  | .local _ .vmem, ⟨6, _⟩ => ⟨S256x3000, .f32⟩
  | .local _ .vmem, ⟨7, _⟩ => ⟨S256x3000, .f32⟩
  | .local _ .vmem, ⟨8, _⟩ => ⟨S256x3000, .f32⟩
  | .local _ .vmem, ⟨9, _⟩ => ⟨S256x3000, .f32⟩
  | .local _ .vmem, ⟨10, _⟩ => ⟨S3000x64, .f32⟩
  | .local _ .vmem, ⟨11, _⟩ => ⟨S3000x64, .f32⟩
  | .local _ .vmem, ⟨12, _⟩ => ⟨S256x64, .f32⟩
  | .local _ .vmem, ⟨13, _⟩ => ⟨S256x64, .f32⟩
  | .local _ .vmem, ⟨14, _⟩ => ⟨S256x64, .f32⟩
  | .local _ .vmem, ⟨15, _⟩ => ⟨S256x64, .f32⟩
  | .local _ .vmem, ⟨16, _⟩ => ⟨S256x4096, .f32⟩
  | .local _ .vmem, ⟨17, _⟩ => ⟨S256x4096, .f32⟩
  | .local _ .vmem, ⟨18, _⟩ => ⟨S256x4096, .f32⟩
  | .local _ .vmem, ⟨19, _⟩ => ⟨S256x4096, .f32⟩
  | .local _ .vmem, ⟨20, _⟩ => ⟨S256x4096, .f32⟩
  | .local _ .vmem, ⟨21, _⟩ => ⟨S256x4096, .f32⟩
  | .local _ .vmem, ⟨22, _⟩ => ⟨S256x4096, .f32⟩
  | .local _ .vmem, ⟨23, _⟩ => ⟨S256x4096, .f32⟩
  | .local _ .vmem, ⟨24, _⟩ => ⟨S4096x64, .f32⟩
  | .local _ .vmem, ⟨25, _⟩ => ⟨S4096x64, .f32⟩
  | .local _ .vmem, ⟨26, _⟩ => ⟨S64x64, .f32⟩
  | .local _ .vmem, ⟨27, _⟩ => ⟨S64x1, .f32⟩
  | .local _ .vmem, ⟨28, _⟩ => ⟨S64x64, .f32⟩
  | .local _ .vmem, ⟨29, _⟩ => ⟨S64x1, .f32⟩
  | .local _ .vmem, ⟨30, _⟩ => ⟨S64x64, .f32⟩
  | .local _ .vmem, ⟨31, _⟩ => ⟨S64x1, .f32⟩
  | .local _ .vmem, ⟨32, _⟩ => ⟨S64x50, .f32⟩
  | .local _ .vmem, ⟨33, _⟩ => ⟨S1x50, .f32⟩
  | .local _ .vmem, ⟨34, _⟩ => ⟨S50x100, .f32⟩
  | .local _ .vmem, ⟨35, _⟩ => ⟨S1x100, .f32⟩
  | .local _ .vmem, ⟨36, _⟩ => ⟨S100x1, .f32⟩
  | .local _ .vmem, ⟨37, _⟩ => ⟨S1x1, .f32⟩
  | .local _ .vmem, ⟨38, _⟩ => ⟨S256x64, .f32⟩
  | .local _ .vmem, ⟨39, _⟩ => ⟨S256x64, .f32⟩
  | .local _ .vmem, ⟨40, _⟩ => ⟨S256x64, .f32⟩
  | .local _ .vmem, ⟨41, _⟩ => ⟨S256x64, .f32⟩
  | .local _ .vmem, ⟨42, _⟩ => ⟨S256x64, .f32⟩
  | .local _ .vmem, ⟨43, _⟩ => ⟨S256x64, .f32⟩
  | .local _ .vmem, ⟨44, _⟩ => ⟨S256x2, .f32⟩
  | .local _ .vmem, ⟨45, _⟩ => ⟨S256x2, .f32⟩
  | .local _ .vmem, ⟨46, _⟩ => ⟨S256x2, .f32⟩
  | .local _ .vmem, ⟨47, _⟩ => ⟨S256x2, .f32⟩
  | .local _ .vmem, ⟨48, _⟩ => ⟨S256x2, .f32⟩
  | .local _ .vmem, ⟨49, _⟩ => ⟨S256x2, .f32⟩
  | .local _ .vmem, ⟨50, _⟩ => ⟨S256x1, .f32⟩
  | .local _ .vmem, ⟨51, _⟩ => ⟨S256x1, .f32⟩
  | .local _ .vmem, ⟨52, _⟩ => ⟨S256x1, .f32⟩
  | .local _ .vmem, ⟨53, _⟩ => ⟨S256x1, .f32⟩
  | .local _ .vmem, ⟨54, _⟩ => ⟨S256x4096, .bf16⟩
  | .local _ .vmem, ⟨55, _⟩ => ⟨S256x4096, .bf16⟩
  | .local _ .vmem, ⟨56, _⟩ => ⟨S256x4096, .bf16⟩
  | .local _ .vmem, ⟨57, _⟩ => ⟨S256x4096, .bf16⟩
  | .local _ .vmem, ⟨58, _⟩ => ⟨S256x128, .bf16⟩
  | .local _ .vmem, ⟨59, _⟩ => ⟨S256x128, .bf16⟩
  | .local _ .vmem, ⟨60, _⟩ => ⟨S256x128, .bf16⟩
  | .local _ .vmem, ⟨61, _⟩ => ⟨S256x128, .bf16⟩
  | .local _ .vmem, ⟨62, _⟩ => ⟨S256x4096, .bf16⟩
  | .local _ .vmem, ⟨63, _⟩ => ⟨S256x4096, .bf16⟩
  | .local _ .vmem, ⟨64, _⟩ => ⟨S256x4096, .bf16⟩
  | .local _ .vmem, ⟨65, _⟩ => ⟨S256x4096, .bf16⟩
  | .local _ .vmem, ⟨66, _⟩ => ⟨S4096x128, .bf16⟩
  | .local _ .vmem, ⟨67, _⟩ => ⟨S4096x128, .bf16⟩
  | .local _ .vmem, ⟨68, _⟩ => ⟨S64x3000, .f32⟩
  | .local _ .vmem, ⟨69, _⟩ => ⟨S64x3000, .f32⟩
  | .local _ .vmem, ⟨70, _⟩ => ⟨S64x64, .f32⟩
  | .local _ .vmem, ⟨71, _⟩ => ⟨S64x64, .f32⟩
  | .local _ .vmem, ⟨72, _⟩ => ⟨S256x3000, .f32⟩
  | .local _ .vmem, ⟨73, _⟩ => ⟨S256x3000, .f32⟩
  | .local _ .vmem, ⟨74, _⟩ => ⟨S256x3000, .f32⟩
  | .local _ .vmem, ⟨75, _⟩ => ⟨S256x3000, .f32⟩
  | .local _ .vmem, ⟨76, _⟩ => ⟨S256x64, .f32⟩
  | .local _ .vmem, ⟨77, _⟩ => ⟨S256x64, .f32⟩
  | .local _ .vmem, ⟨78, _⟩ => ⟨S256x64, .f32⟩
  | .local _ .vmem, ⟨79, _⟩ => ⟨S256x64, .f32⟩
  | .local _ .vmem, ⟨80, _⟩ => ⟨S256x4096, .bf16⟩
  | .local _ .vmem, ⟨81, _⟩ => ⟨S256x4096, .bf16⟩
  | .local _ .vmem, ⟨82, _⟩ => ⟨S256x4096, .bf16⟩
  | .local _ .vmem, ⟨83, _⟩ => ⟨S256x4096, .bf16⟩
  | .local _ .vmem, ⟨84, _⟩ => ⟨S4096x64, .f32⟩
  | .local _ .vmem, ⟨85, _⟩ => ⟨S4096x64, .f32⟩
  | .local _ .vmem, ⟨86, _⟩ => ⟨S256x64, .f32⟩
  | .local _ .vmem, ⟨87, _⟩ => ⟨S256x64, .f32⟩
  | .local _ .vmem, ⟨88, _⟩ => ⟨S256x64, .f32⟩
  | .local _ .vmem, ⟨89, _⟩ => ⟨S256x64, .f32⟩
  | _, _ => ⟨S4096x3000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0_0 : Ref sig .tc := ⟨.hbm, 22, rfl⟩
abbrev main_v0_1 : Ref sig .tc := ⟨.hbm, 23, rfl⟩
abbrev main_v1_0 : Ref sig .tc := ⟨.hbm, 24, rfl⟩
abbrev main_v1_1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8_0 : Ref sig .tc := ⟨.hbm, 32, rfl⟩
abbrev main_v8_1 : Ref sig .tc := ⟨.hbm, 33, rfl⟩
abbrev main_v8_2 : Ref sig .tc := ⟨.hbm, 34, rfl⟩
abbrev main_v8_3 : Ref sig .tc := ⟨.hbm, 35, rfl⟩
abbrev main_v8_4 : Ref sig .tc := ⟨.hbm, 36, rfl⟩
abbrev main_v8_5 : Ref sig .tc := ⟨.hbm, 37, rfl⟩
abbrev main_v8_6 : Ref sig .tc := ⟨.hbm, 38, rfl⟩
abbrev main_v8_7 : Ref sig .tc := ⟨.hbm, 39, rfl⟩
abbrev main_v8_8 : Ref sig .tc := ⟨.hbm, 40, rfl⟩
abbrev main_v8_9 : Ref sig .tc := ⟨.hbm, 41, rfl⟩
abbrev main_v8_10 : Ref sig .tc := ⟨.hbm, 42, rfl⟩
abbrev main_v8_11 : Ref sig .tc := ⟨.hbm, 43, rfl⟩
abbrev main_v9_0 : Ref sig .tc := ⟨.hbm, 44, rfl⟩
abbrev main_v9_1 : Ref sig .tc := ⟨.hbm, 45, rfl⟩
abbrev main_v9_2 : Ref sig .tc := ⟨.hbm, 46, rfl⟩
abbrev main_v9_3 : Ref sig .tc := ⟨.hbm, 47, rfl⟩
abbrev main_v10_0 : Ref sig .tc := ⟨.hbm, 48, rfl⟩
abbrev main_v10_1 : Ref sig .tc := ⟨.hbm, 49, rfl⟩
abbrev main_v11 : Ref sig .tc := ⟨.hbm, 50, rfl⟩
abbrev main_v12 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg11_0 : Ref sig .tc := ⟨.vmem, 31, rfl⟩
abbrev cc2_stg12_0 : Ref sig .tc := ⟨.vmem, 32, rfl⟩
abbrev cc2_stg13_0 : Ref sig .tc := ⟨.vmem, 33, rfl⟩
abbrev cc2_stg14_0 : Ref sig .tc := ⟨.vmem, 34, rfl⟩
abbrev cc2_stg15_0 : Ref sig .tc := ⟨.vmem, 35, rfl⟩
abbrev cc2_stg16_0 : Ref sig .tc := ⟨.vmem, 36, rfl⟩
abbrev cc2_stg17_0 : Ref sig .tc := ⟨.vmem, 37, rfl⟩
abbrev cc2_stg18_0 : Ref sig .tc := ⟨.vmem, 38, rfl⟩
abbrev cc2_stg18_1 : Ref sig .tc := ⟨.vmem, 39, rfl⟩
abbrev cc2_stg19_0 : Ref sig .tc := ⟨.vmem, 40, rfl⟩
abbrev cc2_stg19_1 : Ref sig .tc := ⟨.vmem, 41, rfl⟩
abbrev cc2_stg20_0 : Ref sig .tc := ⟨.vmem, 42, rfl⟩
abbrev cc2_stg20_1 : Ref sig .tc := ⟨.vmem, 43, rfl⟩
abbrev cc2_stg21_0 : Ref sig .tc := ⟨.vmem, 44, rfl⟩
abbrev cc2_stg21_1 : Ref sig .tc := ⟨.vmem, 45, rfl⟩
abbrev cc2_stg22_0 : Ref sig .tc := ⟨.vmem, 46, rfl⟩
abbrev cc2_stg22_1 : Ref sig .tc := ⟨.vmem, 47, rfl⟩
abbrev cc2_stg23_0 : Ref sig .tc := ⟨.vmem, 48, rfl⟩
abbrev cc2_stg23_1 : Ref sig .tc := ⟨.vmem, 49, rfl⟩
abbrev cc2_stg24_0 : Ref sig .tc := ⟨.vmem, 50, rfl⟩
abbrev cc2_stg24_1 : Ref sig .tc := ⟨.vmem, 51, rfl⟩
abbrev cc2_stg25_0 : Ref sig .tc := ⟨.vmem, 52, rfl⟩
abbrev cc2_stg25_1 : Ref sig .tc := ⟨.vmem, 53, rfl⟩
abbrev cc2_stg26_0 : Ref sig .tc := ⟨.vmem, 54, rfl⟩
abbrev cc2_stg26_1 : Ref sig .tc := ⟨.vmem, 55, rfl⟩
abbrev cc2_stg27_0 : Ref sig .tc := ⟨.vmem, 56, rfl⟩
abbrev cc2_stg27_1 : Ref sig .tc := ⟨.vmem, 57, rfl⟩
abbrev cc2_stg28_0 : Ref sig .tc := ⟨.vmem, 58, rfl⟩
abbrev cc2_stg28_1 : Ref sig .tc := ⟨.vmem, 59, rfl⟩
abbrev cc2_stg29_0 : Ref sig .tc := ⟨.vmem, 60, rfl⟩
abbrev cc2_stg29_1 : Ref sig .tc := ⟨.vmem, 61, rfl⟩
abbrev cc3_stg0_0 : Ref sig .tc := ⟨.vmem, 62, rfl⟩
abbrev cc3_stg0_1 : Ref sig .tc := ⟨.vmem, 63, rfl⟩
abbrev cc3_stg1_0 : Ref sig .tc := ⟨.vmem, 64, rfl⟩
abbrev cc3_stg1_1 : Ref sig .tc := ⟨.vmem, 65, rfl⟩
abbrev cc3_stg2_0 : Ref sig .tc := ⟨.vmem, 66, rfl⟩
abbrev cc3_stg3_0 : Ref sig .tc := ⟨.vmem, 67, rfl⟩
abbrev cc3_stg4_0 : Ref sig .tc := ⟨.vmem, 68, rfl⟩
abbrev cc3_stg5_0 : Ref sig .tc := ⟨.vmem, 69, rfl⟩
abbrev cc3_stg6_0 : Ref sig .tc := ⟨.vmem, 70, rfl⟩
abbrev cc3_stg7_0 : Ref sig .tc := ⟨.vmem, 71, rfl⟩
abbrev cc3_stg8_0 : Ref sig .tc := ⟨.vmem, 72, rfl⟩
abbrev cc3_stg8_1 : Ref sig .tc := ⟨.vmem, 73, rfl⟩
abbrev cc3_stg9_0 : Ref sig .tc := ⟨.vmem, 74, rfl⟩
abbrev cc3_stg9_1 : Ref sig .tc := ⟨.vmem, 75, rfl⟩
abbrev cc3_stg10_0 : Ref sig .tc := ⟨.vmem, 76, rfl⟩
abbrev cc3_stg10_1 : Ref sig .tc := ⟨.vmem, 77, rfl⟩
abbrev cc3_stg11_0 : Ref sig .tc := ⟨.vmem, 78, rfl⟩
abbrev cc3_stg11_1 : Ref sig .tc := ⟨.vmem, 79, rfl⟩
abbrev cc4_stg0_0 : Ref sig .tc := ⟨.vmem, 80, rfl⟩
abbrev cc4_stg0_1 : Ref sig .tc := ⟨.vmem, 81, rfl⟩
abbrev cc4_stg1_0 : Ref sig .tc := ⟨.vmem, 82, rfl⟩
abbrev cc4_stg1_1 : Ref sig .tc := ⟨.vmem, 83, rfl⟩
abbrev cc4_stg2_0 : Ref sig .tc := ⟨.vmem, 84, rfl⟩
abbrev cc4_stg3_0 : Ref sig .tc := ⟨.vmem, 85, rfl⟩
abbrev cc4_stg4_0 : Ref sig .tc := ⟨.vmem, 86, rfl⟩
abbrev cc4_stg4_1 : Ref sig .tc := ⟨.vmem, 87, rfl⟩
abbrev cc4_stg5_0 : Ref sig .tc := ⟨.vmem, 88, rfl⟩
abbrev cc4_stg5_1 : Ref sig .tc := ⟨.vmem, 89, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem11_0 : DmaSem sig := 31
abbrev cc2_sem12_0 : DmaSem sig := 32
abbrev cc2_sem13_0 : DmaSem sig := 33
abbrev cc2_sem14_0 : DmaSem sig := 34
abbrev cc2_sem15_0 : DmaSem sig := 35
abbrev cc2_sem16_0 : DmaSem sig := 36
abbrev cc2_sem17_0 : DmaSem sig := 37
abbrev cc2_sem18_0 : DmaSem sig := 38
abbrev cc2_sem18_1 : DmaSem sig := 39
abbrev cc2_sem19_0 : DmaSem sig := 40
abbrev cc2_sem19_1 : DmaSem sig := 41
abbrev cc2_sem20_0 : DmaSem sig := 42
abbrev cc2_sem20_1 : DmaSem sig := 43
abbrev cc2_sem21_0 : DmaSem sig := 44
abbrev cc2_sem21_1 : DmaSem sig := 45
abbrev cc2_sem22_0 : DmaSem sig := 46
abbrev cc2_sem22_1 : DmaSem sig := 47
abbrev cc2_sem23_0 : DmaSem sig := 48
abbrev cc2_sem23_1 : DmaSem sig := 49
abbrev cc2_sem24_0 : DmaSem sig := 50
abbrev cc2_sem24_1 : DmaSem sig := 51
abbrev cc2_sem25_0 : DmaSem sig := 52
abbrev cc2_sem25_1 : DmaSem sig := 53
abbrev cc2_sem26_0 : DmaSem sig := 54
abbrev cc2_sem26_1 : DmaSem sig := 55
abbrev cc2_sem27_0 : DmaSem sig := 56
abbrev cc2_sem27_1 : DmaSem sig := 57
abbrev cc2_sem28_0 : DmaSem sig := 58
abbrev cc2_sem28_1 : DmaSem sig := 59
abbrev cc2_sem29_0 : DmaSem sig := 60
abbrev cc2_sem29_1 : DmaSem sig := 61
abbrev cc3_sem0_0 : DmaSem sig := 62
abbrev cc3_sem0_1 : DmaSem sig := 63
abbrev cc3_sem1_0 : DmaSem sig := 64
abbrev cc3_sem1_1 : DmaSem sig := 65
abbrev cc3_sem2_0 : DmaSem sig := 66
abbrev cc3_sem3_0 : DmaSem sig := 67
abbrev cc3_sem4_0 : DmaSem sig := 68
abbrev cc3_sem5_0 : DmaSem sig := 69
abbrev cc3_sem6_0 : DmaSem sig := 70
abbrev cc3_sem7_0 : DmaSem sig := 71
abbrev cc3_sem8_0 : DmaSem sig := 72
abbrev cc3_sem8_1 : DmaSem sig := 73
abbrev cc3_sem9_0 : DmaSem sig := 74
abbrev cc3_sem9_1 : DmaSem sig := 75
abbrev cc3_sem10_0 : DmaSem sig := 76
abbrev cc3_sem10_1 : DmaSem sig := 77
abbrev cc3_sem11_0 : DmaSem sig := 78
abbrev cc3_sem11_1 : DmaSem sig := 79
abbrev cc4_sem0_0 : DmaSem sig := 80
abbrev cc4_sem0_1 : DmaSem sig := 81
abbrev cc4_sem1_0 : DmaSem sig := 82
abbrev cc4_sem1_1 : DmaSem sig := 83
abbrev cc4_sem2_0 : DmaSem sig := 84
abbrev cc4_sem3_0 : DmaSem sig := 85
abbrev cc4_sem4_0 : DmaSem sig := 86
abbrev cc4_sem4_1 : DmaSem sig := 87
abbrev cc4_sem5_0 : DmaSem sig := 88
abbrev cc4_sem5_1 : DmaSem sig := 89

abbrev nD : Nat := 1
abbrev τ : Topo := Topo.v7x

variable {F : FTy → Type} [FloatOps F]

abbrev grid0 : Pipeline.Grid := .none

abbrev stage0_0 : Fin 1 → Memref sig .tc .vmem S64x3000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x3000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3000x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x3000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x3000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3000x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3000x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_19 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_20 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_21 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_22 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_23 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_24 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_25 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_26 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_27 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_28 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_29 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S4096x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4096x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64x50 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x50 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S50x100 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x100 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S100x1 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S1x1 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 2 → Memref sig .tc .vmem S256x64 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

abbrev stage2_19 : Fin 2 → Memref sig .tc .vmem S256x64 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]

abbrev stage2_20 : Fin 2 → Memref sig .tc .vmem S256x64 .f32 := fun | 0 => Memref.whole cc2_stg20_0 | 1 => Memref.whole cc2_stg20_1 | ⟨_ + 2, h⟩ => absurd h (Nat.not_lt.2 (Nat.le_add_left _ _))
abbrev sem2_20 : Fin 2 → DmaSem sig := fun | 0 => cc2_sem20_0 | 1 => cc2_sem20_1 | ⟨_ + 2, h⟩ => absurd h (Nat.not_lt.2 (Nat.le_add_left _ _))
abbrev reads2_20 : Fin grid2.rank → Bool := ![true]

abbrev stage2_21 : Fin 2 → Memref sig .tc .vmem S256x2 .f32 := fun | 0 => Memref.whole cc2_stg21_0 | 1 => Memref.whole cc2_stg21_1 | ⟨_ + 2, h⟩ => absurd h (Nat.not_lt.2 (Nat.le_add_left _ _))
abbrev sem2_21 : Fin 2 → DmaSem sig := fun | 0 => cc2_sem21_0 | 1 => cc2_sem21_1 | ⟨_ + 2, h⟩ => absurd h (Nat.not_lt.2 (Nat.le_add_left _ _))
abbrev reads2_21 : Fin grid2.rank → Bool := ![true]

abbrev stage2_22 : Fin 2 → Memref sig .tc .vmem S256x2 .f32 := fun | 0 => Memref.whole cc2_stg22_0 | 1 => Memref.whole cc2_stg22_1 | ⟨_ + 2, h⟩ => absurd h (Nat.not_lt.2 (Nat.le_add_left _ _))
abbrev sem2_22 : Fin 2 → DmaSem sig := fun | 0 => cc2_sem22_0 | 1 => cc2_sem22_1 | ⟨_ + 2, h⟩ => absurd h (Nat.not_lt.2 (Nat.le_add_left _ _))
abbrev reads2_22 : Fin grid2.rank → Bool := ![true]

abbrev stage2_23 : Fin 2 → Memref sig .tc .vmem S256x2 .f32 := fun | 0 => Memref.whole cc2_stg23_0 | 1 => Memref.whole cc2_stg23_1 | ⟨_ + 2, h⟩ => absurd h (Nat.not_lt.2 (Nat.le_add_left _ _))
abbrev sem2_23 : Fin 2 → DmaSem sig := fun | 0 => cc2_sem23_0 | 1 => cc2_sem23_1 | ⟨_ + 2, h⟩ => absurd h (Nat.not_lt.2 (Nat.le_add_left _ _))
abbrev reads2_23 : Fin grid2.rank → Bool := ![true]

abbrev stage2_24 : Fin 2 → Memref sig .tc .vmem S256x1 .f32 := fun | 0 => Memref.whole cc2_stg24_0 | 1 => Memref.whole cc2_stg24_1 | ⟨_ + 2, h⟩ => absurd h (Nat.not_lt.2 (Nat.le_add_left _ _))
abbrev sem2_24 : Fin 2 → DmaSem sig := fun | 0 => cc2_sem24_0 | 1 => cc2_sem24_1 | ⟨_ + 2, h⟩ => absurd h (Nat.not_lt.2 (Nat.le_add_left _ _))
abbrev reads2_24 : Fin grid2.rank → Bool := ![true]

abbrev stage2_25 : Fin 2 → Memref sig .tc .vmem S256x1 .f32 := fun | 0 => Memref.whole cc2_stg25_0 | 1 => Memref.whole cc2_stg25_1 | ⟨_ + 2, h⟩ => absurd h (Nat.not_lt.2 (Nat.le_add_left _ _))
abbrev sem2_25 : Fin 2 → DmaSem sig := fun | 0 => cc2_sem25_0 | 1 => cc2_sem25_1 | ⟨_ + 2, h⟩ => absurd h (Nat.not_lt.2 (Nat.le_add_left _ _))
abbrev reads2_25 : Fin grid2.rank → Bool := ![true]

abbrev stage2_26 : Fin 2 → Memref sig .tc .vmem S256x4096 .bf16 := fun | 0 => Memref.whole cc2_stg26_0 | 1 => Memref.whole cc2_stg26_1 | ⟨_ + 2, h⟩ => absurd h (Nat.not_lt.2 (Nat.le_add_left _ _))
abbrev sem2_26 : Fin 2 → DmaSem sig := fun | 0 => cc2_sem26_0 | 1 => cc2_sem26_1 | ⟨_ + 2, h⟩ => absurd h (Nat.not_lt.2 (Nat.le_add_left _ _))
abbrev reads2_26 : Fin grid2.rank → Bool := ![true]

abbrev stage2_27 : Fin 2 → Memref sig .tc .vmem S256x4096 .bf16 := fun | 0 => Memref.whole cc2_stg27_0 | 1 => Memref.whole cc2_stg27_1 | ⟨_ + 2, h⟩ => absurd h (Nat.not_lt.2 (Nat.le_add_left _ _))
abbrev sem2_27 : Fin 2 → DmaSem sig := fun | 0 => cc2_sem27_0 | 1 => cc2_sem27_1 | ⟨_ + 2, h⟩ => absurd h (Nat.not_lt.2 (Nat.le_add_left _ _))
abbrev reads2_27 : Fin grid2.rank → Bool := ![true]

abbrev stage2_28 : Fin 2 → Memref sig .tc .vmem S256x128 .bf16 := fun | 0 => Memref.whole cc2_stg28_0 | 1 => Memref.whole cc2_stg28_1 | ⟨_ + 2, h⟩ => absurd h (Nat.not_lt.2 (Nat.le_add_left _ _))
abbrev sem2_28 : Fin 2 → DmaSem sig := fun | 0 => cc2_sem28_0 | 1 => cc2_sem28_1 | ⟨_ + 2, h⟩ => absurd h (Nat.not_lt.2 (Nat.le_add_left _ _))
abbrev reads2_28 : Fin grid2.rank → Bool := ![true]

abbrev stage2_29 : Fin 2 → Memref sig .tc .vmem S256x128 .bf16 := fun | 0 => Memref.whole cc2_stg29_0 | 1 => Memref.whole cc2_stg29_1 | ⟨_ + 2, h⟩ => absurd h (Nat.not_lt.2 (Nat.le_add_left _ _))
abbrev sem2_29 : Fin 2 → DmaSem sig := fun | 0 => cc2_sem29_0 | 1 => cc2_sem29_1 | ⟨_ + 2, h⟩ => absurd h (Nat.not_lt.2 (Nat.le_add_left _ _))
abbrev reads2_29 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4096x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4096x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x3000 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x3000 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S256x3000 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S256x3000 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S256x64 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S256x64 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x4096 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S4096x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S4096x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S256x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]
-- ==== ReferenceIdeal.lean ====
abbrev S4096x3000 : Shape := ⟨2, ![4096, 3000]⟩
abbrev S4096x4096 : Shape := ⟨2, ![4096, 4096]⟩
abbrev S3000x64 : Shape := ⟨2, ![3000, 64]⟩
abbrev S64x3000 : Shape := ⟨2, ![64, 3000]⟩
abbrev S64x64 : Shape := ⟨2, ![64, 64]⟩
abbrev S64x1 : Shape := ⟨2, ![64, 1]⟩
abbrev S50x64 : Shape := ⟨2, ![50, 64]⟩
abbrev S50 : Shape := ⟨1, ![50]⟩
abbrev S100x50 : Shape := ⟨2, ![100, 50]⟩
abbrev S100 : Shape := ⟨1, ![100]⟩
abbrev S1x100 : Shape := ⟨2, ![1, 100]⟩
abbrev S1 : Shape := ⟨1, ![1]⟩
abbrev S4096x64 : Shape := ⟨2, ![4096, 64]⟩
abbrev S4096x1x64 : Shape := ⟨3, ![4096, 1, 64]⟩
abbrev S4096x2x64 : Shape := ⟨3, ![4096, 2, 64]⟩
abbrev S4096x2x1 : Shape := ⟨3, ![4096, 2, 1]⟩
abbrev S4096x2 : Shape := ⟨2, ![4096, 2]⟩
abbrev S_ : Shape := ⟨0, ![]⟩
abbrev S4096 : Shape := ⟨1, ![4096]⟩
abbrev S4096x1 : Shape := ⟨2, ![4096, 1]⟩
abbrev S64x50 : Shape := ⟨2, ![64, 50]⟩
abbrev S4096x50 : Shape := ⟨2, ![4096, 50]⟩
abbrev S1x50 : Shape := ⟨2, ![1, 50]⟩
abbrev S50x100 : Shape := ⟨2, ![50, 100]⟩
abbrev S4096x100 : Shape := ⟨2, ![4096, 100]⟩
abbrev S100x1 : Shape := ⟨2, ![100, 1]⟩
abbrev S1x1 : Shape := ⟨2, ![1, 1]⟩

abbrev nBuf : Space → Nat
  | .hbm => 205
  | .vmem => 0
  | .smem => 0
  | _ => 0

abbrev hbmTy0_0 (i : Nat) : BufTy := match i % 128 with
  | 0 => ⟨S4096x3000, .f32⟩
  | 1 => ⟨S4096x3000, .f32⟩
  | 2 => ⟨S4096x4096, .f32⟩
  | 3 => ⟨S4096x4096, .f32⟩
  | 4 => ⟨S4096x4096, .f32⟩
  | 5 => ⟨S4096x4096, .f32⟩
  | 6 => ⟨S3000x64, .f32⟩
  | 7 => ⟨S64x3000, .f32⟩
  | 8 => ⟨S3000x64, .f32⟩
  | 9 => ⟨S64x3000, .f32⟩
  | 10 => ⟨S64x64, .f32⟩
  | 11 => ⟨S64x1, .f32⟩
  | 12 => ⟨S64x64, .f32⟩
  | 13 => ⟨S64x1, .f32⟩
  | 14 => ⟨S64x64, .f32⟩
  | 15 => ⟨S64x1, .f32⟩
  | 16 => ⟨S50x64, .f32⟩
  | 17 => ⟨S50, .f32⟩
  | 18 => ⟨S100x50, .f32⟩
  | 19 => ⟨S100, .f32⟩
  | 20 => ⟨S1x100, .f32⟩
  | 21 => ⟨S1, .f32⟩
  | 22 => ⟨S4096x64, .f32⟩
  | 23 => ⟨S4096x64, .f32⟩
  | 24 => ⟨S4096x3000, .f32⟩
  | 25 => ⟨S4096x3000, .f32⟩
  | 26 => ⟨S4096x64, .f32⟩
  | 27 => ⟨S4096x64, .f32⟩
  | 28 => ⟨S4096x3000, .f32⟩
  | 29 => ⟨S4096x3000, .f32⟩
  | 30 => ⟨S4096x64, .f32⟩
  | 31 => ⟨S4096x64, .f32⟩
  | 32 => ⟨S4096x3000, .f32⟩
  | 33 => ⟨S4096x3000, .f32⟩
  | 34 => ⟨S4096x64, .f32⟩
  | 35 => ⟨S4096x64, .f32⟩
  | 36 => ⟨S4096x3000, .f32⟩
  | 37 => ⟨S4096x3000, .f32⟩
  | 38 => ⟨S4096x1x64, .f32⟩
  | 39 => ⟨S4096x1x64, .f32⟩
  | 40 => ⟨S4096x2x64, .f32⟩
  | 41 => ⟨S4096x2x64, .f32⟩
  | 42 => ⟨S4096x2x64, .f32⟩
  | 43 => ⟨S4096x2x1, .f32⟩
  | 44 => ⟨S4096x2, .f32⟩
  | 45 => ⟨S_, .f32⟩
  | 46 => ⟨S4096x2, .f32⟩
  | 47 => ⟨S4096x2, .f32⟩
  | 48 => ⟨S_, .f32⟩
  | 49 => ⟨S4096, .f32⟩
  | 50 => ⟨S_, .f32⟩
  | 51 => ⟨S4096, .f32⟩
  | 52 => ⟨S4096, .f32⟩
  | 53 => ⟨S4096x1, .f32⟩
  | 54 => ⟨S4096x2, .f32⟩
  | 55 => ⟨S4096x2, .f32⟩
  | 56 => ⟨S4096x2, .f32⟩
  | 57 => ⟨S_, .f32⟩
  | 58 => ⟨S4096, .f32⟩
  | 59 => ⟨S4096x1, .f32⟩
  | 60 => ⟨S4096x2, .f32⟩
  | 61 => ⟨S4096x2, .f32⟩
  | 62 => ⟨S4096x64, .f32⟩
  | 63 => ⟨S4096x1x64, .f32⟩
  | 64 => ⟨S4096x1x64, .f32⟩
  | 65 => ⟨S4096x2x64, .f32⟩
  | 66 => ⟨S4096x2x64, .f32⟩
  | 67 => ⟨S4096x2x64, .f32⟩
  | 68 => ⟨S4096x2x1, .f32⟩
  | 69 => ⟨S4096x2, .f32⟩
  | 70 => ⟨S_, .f32⟩
  | 71 => ⟨S4096x2, .f32⟩
  | 72 => ⟨S4096x2, .f32⟩
  | 73 => ⟨S_, .f32⟩
  | 74 => ⟨S4096, .f32⟩
  | 75 => ⟨S_, .f32⟩
  | 76 => ⟨S4096, .f32⟩
  | 77 => ⟨S4096, .f32⟩
  | 78 => ⟨S4096x1, .f32⟩
  | 79 => ⟨S4096x2, .f32⟩
  | 80 => ⟨S4096x2, .f32⟩
  | 81 => ⟨S4096x2, .f32⟩
  | 82 => ⟨S_, .f32⟩
  | 83 => ⟨S4096, .f32⟩
  | 84 => ⟨S4096x1, .f32⟩
  | 85 => ⟨S4096x2, .f32⟩
  | 86 => ⟨S4096x2, .f32⟩
  | 87 => ⟨S4096x64, .f32⟩
  | 88 => ⟨S4096x1x64, .f32⟩
  | 89 => ⟨S4096x1x64, .f32⟩
  | 90 => ⟨S4096x2x64, .f32⟩
  | 91 => ⟨S4096x2x64, .f32⟩
  | 92 => ⟨S4096x2x64, .f32⟩
  | 93 => ⟨S4096x2x1, .f32⟩
  | 94 => ⟨S4096x2, .f32⟩
  | 95 => ⟨S_, .f32⟩
  | 96 => ⟨S4096x2, .f32⟩
  | 97 => ⟨S4096x2, .f32⟩
  | 98 => ⟨S_, .f32⟩
  | 99 => ⟨S4096, .f32⟩
  | 100 => ⟨S_, .f32⟩
  | 101 => ⟨S4096, .f32⟩
  | 102 => ⟨S4096, .f32⟩
  | 103 => ⟨S4096x1, .f32⟩
  | 104 => ⟨S4096x2, .f32⟩
  | 105 => ⟨S4096x2, .f32⟩
  | 106 => ⟨S4096x2, .f32⟩
  | 107 => ⟨S_, .f32⟩
  | 108 => ⟨S4096, .f32⟩
  | 109 => ⟨S4096x1, .f32⟩
  | 110 => ⟨S4096x2, .f32⟩
  | 111 => ⟨S4096x2, .f32⟩
  | 112 => ⟨S4096x64, .f32⟩
  | 113 => ⟨S4096x3000, .f32⟩
  | 114 => ⟨S4096x3000, .f32⟩
  | 115 => ⟨S4096x3000, .f32⟩
  | 116 => ⟨S4096x3000, .f32⟩
  | 117 => ⟨S4096x3000, .f32⟩
  | 118 => ⟨S4096x3000, .f32⟩
  | 119 => ⟨S4096x64, .f32⟩
  | 120 => ⟨S4096x64, .f32⟩
  | 121 => ⟨S4096x3000, .f32⟩
  | 122 => ⟨S4096x3000, .f32⟩
  | 123 => ⟨S4096x64, .f32⟩
  | 124 => ⟨S4096x64, .f32⟩
  | 125 => ⟨S64x50, .f32⟩
  | 126 => ⟨S4096x50, .f32⟩
  | 127 => ⟨S1x50, .f32⟩
  | _ => ⟨S4096x3000, .f32⟩

abbrev hbmTy0_1 (i : Nat) : BufTy := match i % 128 with
  | 0 => ⟨S4096x50, .f32⟩
  | 1 => ⟨S4096x50, .f32⟩
  | 2 => ⟨S_, .f32⟩
  | 3 => ⟨S_, .f32⟩
  | 4 => ⟨S4096x50, .f32⟩
  | 5 => ⟨S4096x50, .i1⟩
  | 6 => ⟨S_, .f32⟩
  | 7 => ⟨S4096x50, .f32⟩
  | 8 => ⟨S4096x50, .f32⟩
  | 9 => ⟨S4096x50, .f32⟩
  | 10 => ⟨S50x100, .f32⟩
  | 11 => ⟨S4096x100, .f32⟩
  | 12 => ⟨S1x100, .f32⟩
  | 13 => ⟨S4096x100, .f32⟩
  | 14 => ⟨S4096x100, .f32⟩
  | 15 => ⟨S_, .f32⟩
  | 16 => ⟨S_, .f32⟩
  | 17 => ⟨S4096x100, .f32⟩
  | 18 => ⟨S4096x100, .i1⟩
  | 19 => ⟨S_, .f32⟩
  | 20 => ⟨S4096x100, .f32⟩
  | 21 => ⟨S4096x100, .f32⟩
  | 22 => ⟨S4096x100, .f32⟩
  | 23 => ⟨S100x1, .f32⟩
  | 24 => ⟨S4096x1, .f32⟩
  | 25 => ⟨S1x1, .f32⟩
  | 26 => ⟨S4096x1, .f32⟩
  | 27 => ⟨S4096x1, .f32⟩
  | 28 => ⟨S4096x1, .f32⟩
  | 29 => ⟨S4096x1, .f32⟩
  | 30 => ⟨S_, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096, .f32⟩
  | 37 => ⟨S64x50, .f32⟩
  | 38 => ⟨S4096x50, .f32⟩
  | 39 => ⟨S1x50, .f32⟩
  | 40 => ⟨S4096x50, .f32⟩
  | 41 => ⟨S4096x50, .f32⟩
  | 42 => ⟨S_, .f32⟩
  | 43 => ⟨S_, .f32⟩
  | 44 => ⟨S4096x50, .f32⟩
  | 45 => ⟨S4096x50, .i1⟩
  | 46 => ⟨S_, .f32⟩
  | 47 => ⟨S4096x50, .f32⟩
  | 48 => ⟨S4096x50, .f32⟩
  | 49 => ⟨S4096x50, .f32⟩
  | 50 => ⟨S50x100, .f32⟩
  | 51 => ⟨S4096x100, .f32⟩
  | 52 => ⟨S1x100, .f32⟩
  | 53 => ⟨S4096x100, .f32⟩
  | 54 => ⟨S4096x100, .f32⟩
  | 55 => ⟨S_, .f32⟩
  | 56 => ⟨S_, .f32⟩
  | 57 => ⟨S4096x100, .f32⟩
  | 58 => ⟨S4096x100, .i1⟩
  | 59 => ⟨S_, .f32⟩
  | 60 => ⟨S4096x100, .f32⟩
  | 61 => ⟨S4096x100, .f32⟩
  | 62 => ⟨S4096x100, .f32⟩
  | 63 => ⟨S100x1, .f32⟩
  | 64 => ⟨S4096x1, .f32⟩
  | 65 => ⟨S1x1, .f32⟩
  | 66 => ⟨S4096x1, .f32⟩
  | 67 => ⟨S4096x1, .f32⟩
  | 68 => ⟨S4096x1, .f32⟩
  | 69 => ⟨S4096x1, .f32⟩
  | 70 => ⟨S_, .f32⟩
  | 71 => ⟨S4096x1, .f32⟩
  | 72 => ⟨S4096x1, .f32⟩
  | 73 => ⟨S_, .f32⟩
  | 74 => ⟨S4096x1, .f32⟩
  | 75 => ⟨S4096x1, .f32⟩
  | 76 => ⟨S4096, .f32⟩
  | _ => ⟨S4096x3000, .f32⟩

abbrev hbmTy (i : Nat) : BufTy := match i / 128 with
  | 0 => hbmTy0_0 i
  | 1 => hbmTy0_1 i
  | _ => ⟨S4096x3000, .f32⟩

abbrev bufTy : (tb : Table) → Fin (tcTables nBuf tb) → BufTy
  | .hbm, ⟨i, _⟩ => hbmTy i
  | _, _ => ⟨S4096x3000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst : Ref sig .tc := ⟨.hbm, 45, rfl⟩
abbrev main_v23 : Ref sig .tc := ⟨.hbm, 46, rfl⟩
abbrev main_v24 : Ref sig .tc := ⟨.hbm, 47, rfl⟩
abbrev main_cst_0 : Ref sig .tc := ⟨.hbm, 48, rfl⟩
abbrev main_v25 : Ref sig .tc := ⟨.hbm, 49, rfl⟩
abbrev main_cst_1 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_3 : Ref sig .tc := ⟨.hbm, 70, rfl⟩
abbrev main_v44 : Ref sig .tc := ⟨.hbm, 71, rfl⟩
abbrev main_v45 : Ref sig .tc := ⟨.hbm, 72, rfl⟩
abbrev main_cst_4 : Ref sig .tc := ⟨.hbm, 73, rfl⟩
abbrev main_v46 : Ref sig .tc := ⟨.hbm, 74, rfl⟩
abbrev main_cst_5 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_6 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_7 : Ref sig .tc := ⟨.hbm, 95, rfl⟩
abbrev main_v65 : Ref sig .tc := ⟨.hbm, 96, rfl⟩
abbrev main_v66 : Ref sig .tc := ⟨.hbm, 97, rfl⟩
abbrev main_cst_8 : Ref sig .tc := ⟨.hbm, 98, rfl⟩
abbrev main_v67 : Ref sig .tc := ⟨.hbm, 99, rfl⟩
abbrev main_cst_9 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_10 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_11 : Ref sig .tc := ⟨.hbm, 130, rfl⟩
abbrev main_call0_cst : Ref sig .tc := ⟨.hbm, 131, rfl⟩
abbrev main_call0_v0 : Ref sig .tc := ⟨.hbm, 132, rfl⟩
abbrev main_call0_v1 : Ref sig .tc := ⟨.hbm, 133, rfl⟩
abbrev main_call0_v2 : Ref sig .tc := ⟨.hbm, 134, rfl⟩
abbrev main_call0_v3 : Ref sig .tc := ⟨.hbm, 135, rfl⟩
abbrev main_call0_v4 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_12 : Ref sig .tc := ⟨.hbm, 143, rfl⟩
abbrev main_call1_cst : Ref sig .tc := ⟨.hbm, 144, rfl⟩
abbrev main_call1_v0 : Ref sig .tc := ⟨.hbm, 145, rfl⟩
abbrev main_call1_v1 : Ref sig .tc := ⟨.hbm, 146, rfl⟩
abbrev main_call1_v2 : Ref sig .tc := ⟨.hbm, 147, rfl⟩
abbrev main_call1_v3 : Ref sig .tc := ⟨.hbm, 148, rfl⟩
abbrev main_call1_v4 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_13 : Ref sig .tc := ⟨.hbm, 158, rfl⟩
abbrev main_v110 : Ref sig .tc := ⟨.hbm, 159, rfl⟩
abbrev main_v111 : Ref sig .tc := ⟨.hbm, 160, rfl⟩
abbrev main_cst_14 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_15 : Ref sig .tc := ⟨.hbm, 170, rfl⟩
abbrev main_call2_cst : Ref sig .tc := ⟨.hbm, 171, rfl⟩
abbrev main_call2_v0 : Ref sig .tc := ⟨.hbm, 172, rfl⟩
abbrev main_call2_v1 : Ref sig .tc := ⟨.hbm, 173, rfl⟩
abbrev main_call2_v2 : Ref sig .tc := ⟨.hbm, 174, rfl⟩
abbrev main_call2_v3 : Ref sig .tc := ⟨.hbm, 175, rfl⟩
abbrev main_call2_v4 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_cst_16 : Ref sig .tc := ⟨.hbm, 183, rfl⟩
abbrev main_call3_cst : Ref sig .tc := ⟨.hbm, 184, rfl⟩
abbrev main_call3_v0 : Ref sig .tc := ⟨.hbm, 185, rfl⟩
abbrev main_call3_v1 : Ref sig .tc := ⟨.hbm, 186, rfl⟩
abbrev main_call3_v2 : Ref sig .tc := ⟨.hbm, 187, rfl⟩
abbrev main_call3_v3 : Ref sig .tc := ⟨.hbm, 188, rfl⟩
abbrev main_call3_v4 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_cst_17 : Ref sig .tc := ⟨.hbm, 198, rfl⟩
abbrev main_v134 : Ref sig .tc := ⟨.hbm, 199, rfl⟩
abbrev main_v135 : Ref sig .tc := ⟨.hbm, 200, rfl⟩
abbrev main_cst_18 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩

abbrev nD : Nat := 1
abbrev τ : Topo := Topo.v7x

variable {F : FTy → Type} [FloatOps F]
-- ==== Proof.KernelIdeal.Region2.lean ====
/-
  KernelIdeal: the attention region (custom call 2) at the contents it is entered with.
  The text is the generated one, at a larger heartbeat budget in the attention region and over it from there on:
  that region has thirty windows, more than the default budget reaches.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384
-- thirty windows: the default budget is too small for the body's obligation
set_option maxHeartbeats 4000000

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2__k2_body` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_15_of {c : Dev nD} (dat : Dat τ (Elt F) Unit ℕ (UR sig nD τ) ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_16_of {c : Dev nD} (dat : Dat τ (Elt F) Unit ℕ (UR sig nD τ) ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_17_of {c : Dev nD} (dat : Dat τ (Elt F) Unit ℕ (UR sig nD τ) ℕ cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S4096x64 := Rect.unit (s := S4096x64) ![0, 0] S4096x64.size inb_S4096x64_S4096x64_0_0
abbrev r2_1 : Rect S256x4096 := Rect.unit (s := S256x4096) ![0, 0] S256x4096.size inb_S256x4096_S256x4096_0_0
abbrev r2_2 : Rect S64x64 := Rect.unit (s := S64x64) ![0, 0] S64x64.size inb_S64x64_S64x64_0_0
abbrev r2_3 : Rect S64x1 := Rect.unit (s := S64x1) ![0, 0] S64x1.size inb_S64x1_S64x1_0_0
abbrev r2_4 : Rect S256x64 := Rect.unit (s := S256x64) ![0, 0] S256x64.size inb_S256x64_S256x64_0_0
abbrev r2_5 : Rect S256x2 := Rect.unit (s := S256x2) ![0, 0] S256x2.size inb_S256x2_S256x2_0_0
abbrev r2_6 : Rect S64x50 := Rect.unit (s := S64x50) ![0, 0] S64x50.size inb_S64x50_S64x50_0_0
abbrev r2_7 : Rect S1x50 := Rect.unit (s := S1x50) ![0, 0] S1x50.size inb_S1x50_S1x50_0_0
abbrev r2_8 : Rect S50x100 := Rect.unit (s := S50x100) ![0, 0] S50x100.size inb_S50x100_S50x100_0_0
abbrev r2_9 : Rect S1x100 := Rect.unit (s := S1x100) ![0, 0] S1x100.size inb_S1x100_S1x100_0_0
abbrev r2_10 : Rect S100x1 := Rect.unit (s := S100x1) ![0, 0] S100x1.size inb_S100x1_S100x1_0_0
abbrev r2_11 : Rect S1x1 := Rect.unit (s := S1x1) ![0, 0] S1x1.size inb_S1x1_S1x1_0_0
abbrev r2_12 : Rect S256x1 := Rect.unit (s := S256x1) ![0, 0] S256x1.size inb_S256x1_S256x1_0_0
abbrev r2_13 : Rect S256x128 := Rect.unit (s := S256x128) ![0, 0] S256x128.size inb_S256x128_S256x128_0_0

/-! ## What the body leaves in each output window's buffer -/

/-! ### Values of the body that the stores' payloads, spelt out, would write more than once

    Each is a vector the body binds (often a part call's result), stated over the input windows' blocks and
    numbered on from the skeleton's payload functions (`k2_pay50` …, after `k2_pay49`), so that
    `out2_W` and the values after it name it instead of spelling it out ; the comment after each is the printed function's
    name for the value (a count appended where that name is bound again). -/

def k2_pay50 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : FVec F S256x64 .f32 :=
  k2_pay3 (View.ld x4 r2_0) (View.ld x0 r2_1) -- `v6`
def k2_pay51 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : FVec F S256x64 .f32 :=
  k2_pay4 (View.ld x4 r2_0) (View.ld x1 r2_1) -- `v8`
def k2_pay52 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : FVec F S256x64 .f32 :=
  k2_pay5 (View.ld x5 r2_0) (View.ld x2 r2_1) -- `v9`
def k2_pay53 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : FVec F S256x64 .f32 :=
  k2_pay6 (View.ld x5 r2_0) (View.ld x3 r2_1) -- `v11`
def k2_pay54 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : FVec F S256x1 .f32 :=
  k2_pay10 (View.ld x4 r2_0) (View.ld x0 r2_1) (View.ld x1 r2_1) (View.ld x6 r2_2) (View.ld x7 r2_3) -- `v26`
def k2_pay55 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : FVec F S256x1 .f32 :=
  k2_pay11 (View.ld x4 r2_0) (View.ld x0 r2_1) (View.ld x1 r2_1) (View.ld x6 r2_2) (View.ld x7 r2_3) -- `v28`
def k2_pay56 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : FVec F S256x1 .f32 :=
  k2_pay12 (View.ld x4 r2_0) (View.ld x0 r2_1) (View.ld x1 r2_1) (View.ld x6 r2_2) (View.ld x7 r2_3) -- `v31`
def k2_pay57 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : FVec F S256x64 .f32 :=
  k2_pay15 (k2_pay50 x0 x1 x2 x3 x4 x5 x6 x7 x8 x9 x10 x11 x12 x13 x14 x15 x16 x17) (k2_pay51 x0 x1 x2 x3 x4 x5 x6 x7 x8 x9 x10 x11 x12 x13 x14 x15 x16 x17) (k2_pay54 x0 x1 x2 x3 x4 x5 x6 x7 x8 x9 x10 x11 x12 x13 x14 x15 x16 x17) (k2_pay55 x0 x1 x2 x3 x4 x5 x6 x7 x8 x9 x10 x11 x12 x13 x14 x15 x16 x17) (k2_pay56 x0 x1 x2 x3 x4 x5 x6 x7 x8 x9 x10 x11 x12 x13 x14 x15 x16 x17) -- `v38`
def k2_pay58 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : FVec F S256x64 .f32 :=
  k2_pay25 (k2_pay52 x0 x1 x2 x3 x4 x5 x6 x7 x8 x9 x10 x11 x12 x13 x14 x15 x16 x17) (k2_pay53 x0 x1 x2 x3 x4 x5 x6 x7 x8 x9 x10 x11 x12 x13 x14 x15 x16 x17) (View.ld x8 r2_2) (View.ld x9 r2_3) -- `v66`
def k2_pay59 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : FVec F S256x1 .f32 :=
  k2_pay27 (k2_pay50 x0 x1 x2 x3 x4 x5 x6 x7 x8 x9 x10 x11 x12 x13 x14 x15 x16 x17) (k2_pay51 x0 x1 x2 x3 x4 x5 x6 x7 x8 x9 x10 x11 x12 x13 x14 x15 x16 x17) (k2_pay54 x0 x1 x2 x3 x4 x5 x6 x7 x8 x9 x10 x11 x12 x13 x14 x15 x16 x17) (k2_pay55 x0 x1 x2 x3 x4 x5 x6 x7 x8 x9 x10 x11 x12 x13 x14 x15 x16 x17) (k2_pay56 x0 x1 x2 x3 x4 x5 x6 x7 x8 x9 x10 x11 x12 x13 x14 x15 x16 x17) (View.ld x10 r2_2) (View.ld x11 r2_3) -- `v72`
def k2_pay60 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : FVec F S256x1 .f32 :=
  k2_pay28 (F := F) -- `v73`
def k2_pay61 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : FVec F S256x64 .f32 :=
  k2_pay37 (k2_pay57 x0 x1 x2 x3 x4 x5 x6 x7 x8 x9 x10 x11 x12 x13 x14 x15 x16 x17) (k2_pay58 x0 x1 x2 x3 x4 x5 x6 x7 x8 x9 x10 x11 x12 x13 x14 x15 x16 x17) (View.ld x10 r2_2) (View.ld x11 r2_3) (k2_pay59 x0 x1 x2 x3 x4 x5 x6 x7 x8 x9 x10 x11 x12 x13 x14 x15 x16 x17) (k2_pay60 x0 x1 x2 x3 x4 x5 x6 x7 x8 x9 x10 x11 x12 x13 x14 x15 x16 x17) -- `v94`

/-- Window 18's staging buffer after the body, from the input windows' blocks: its 1 store as pieces, LAST
    FIRST (Lib/Pipeline/FrameBody.lean `View.canon`; the payloads are the skeleton's and the values stated above). -/
def out2_18 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : Vec F S256x64 .f32 :=
  View.canon [⟨r2_4, k2_pay57 x0 x1 x2 x3 x4 x5 x6 x7 x8 x9 x10 x11 x12 x13 x14 x15 x16 x17⟩]

/-- Its stores tile the buffer (checked by evaluation), so they cover it. -/
theorem cover2_18 (p0 : Vec F S256x64 .f32) (y : S256x64.Idx) :
    ∃ pc ∈ ([⟨r2_4, p0⟩] : List (View.Piece (Elt F) S256x64 .f32)), y ∈ pc.1.set :=
  View.cover_of_tiled [⟨r2_4, p0⟩] S256x64.size (by rfl) y

/-- Window 19's staging buffer after the body, from the input windows' blocks: its 1 store as pieces, LAST
    FIRST (Lib/Pipeline/FrameBody.lean `View.canon`; the payloads are the skeleton's and the values stated above). -/
def out2_19 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : Vec F S256x64 .f32 :=
  View.canon [⟨r2_4, k2_pay58 x0 x1 x2 x3 x4 x5 x6 x7 x8 x9 x10 x11 x12 x13 x14 x15 x16 x17⟩]

/-- Its stores tile the buffer (checked by evaluation), so they cover it. -/
theorem cover2_19 (p0 : Vec F S256x64 .f32) (y : S256x64.Idx) :
    ∃ pc ∈ ([⟨r2_4, p0⟩] : List (View.Piece (Elt F) S256x64 .f32)), y ∈ pc.1.set :=
  View.cover_of_tiled [⟨r2_4, p0⟩] S256x64.size (by rfl) y

/-- Window 20's staging buffer after the body, from the input windows' blocks: its 1 store as pieces, LAST
    FIRST (Lib/Pipeline/FrameBody.lean `View.canon`; the payloads are the skeleton's and the values stated above). -/
def out2_20 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : Vec F S256x64 .f32 :=
  View.canon [⟨r2_4, k2_pay37 (k2_pay57 x0 x1 x2 x3 x4 x5 x6 x7 x8 x9 x10 x11 x12 x13 x14 x15 x16 x17) (k2_pay58 x0 x1 x2 x3 x4 x5 x6 x7 x8 x9 x10 x11 x12 x13 x14 x15 x16 x17) (View.ld x10 r2_2) (View.ld x11 r2_3) (k2_pay59 x0 x1 x2 x3 x4 x5 x6 x7 x8 x9 x10 x11 x12 x13 x14 x15 x16 x17) (k2_pay60 x0 x1 x2 x3 x4 x5 x6 x7 x8 x9 x10 x11 x12 x13 x14 x15 x16 x17)⟩]

/-- Its stores tile the buffer (checked by evaluation), so they cover it. -/
theorem cover2_20 (p0 : Vec F S256x64 .f32) (y : S256x64.Idx) :
    ∃ pc ∈ ([⟨r2_4, p0⟩] : List (View.Piece (Elt F) S256x64 .f32)), y ∈ pc.1.set :=
  View.cover_of_tiled [⟨r2_4, p0⟩] S256x64.size (by rfl) y

/-- Window 21's staging buffer after the body, from the input windows' blocks: its 1 store as pieces, LAST
    FIRST (Lib/Pipeline/FrameBody.lean `View.canon`; the payloads are the skeleton's and the values stated above). -/
def out2_21 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : Vec F S256x2 .f32 :=
  View.canon [⟨r2_5, k2_pay16 (k2_pay54 x0 x1 x2 x3 x4 x5 x6 x7 x8 x9 x10 x11 x12 x13 x14 x15 x16 x17) (k2_pay55 x0 x1 x2 x3 x4 x5 x6 x7 x8 x9 x10 x11 x12 x13 x14 x15 x16 x17) (k2_pay56 x0 x1 x2 x3 x4 x5 x6 x7 x8 x9 x10 x11 x12 x13 x14 x15 x16 x17)⟩]

/-- Its stores tile the buffer (checked by evaluation), so they cover it. -/
theorem cover2_21 (p0 : Vec F S256x2 .f32) (y : S256x2.Idx) :
    ∃ pc ∈ ([⟨r2_5, p0⟩] : List (View.Piece (Elt F) S256x2 .f32)), y ∈ pc.1.set :=
  View.cover_of_tiled [⟨r2_5, p0⟩] S256x2.size (by rfl) y

/-- Window 22's staging buffer after the body, from the input windows' blocks: its 1 store as pieces, LAST
    FIRST (Lib/Pipeline/FrameBody.lean `View.canon`; the payloads are the skeleton's and the values stated above). -/
def out2_22 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : Vec F S256x2 .f32 :=
  View.canon [⟨r2_5, k2_pay26 (k2_pay52 x0 x1 x2 x3 x4 x5 x6 x7 x8 x9 x10 x11 x12 x13 x14 x15 x16 x17) (k2_pay53 x0 x1 x2 x3 x4 x5 x6 x7 x8 x9 x10 x11 x12 x13 x14 x15 x16 x17) (View.ld x8 r2_2) (View.ld x9 r2_3)⟩]

/-- Its stores tile the buffer (checked by evaluation), so they cover it. -/
theorem cover2_22 (p0 : Vec F S256x2 .f32) (y : S256x2.Idx) :
    ∃ pc ∈ ([⟨r2_5, p0⟩] : List (View.Piece (Elt F) S256x2 .f32)), y ∈ pc.1.set :=
  View.cover_of_tiled [⟨r2_5, p0⟩] S256x2.size (by rfl) y

/-- Window 23's staging buffer after the body, from the input windows' blocks: its 1 store as pieces, LAST
    FIRST (Lib/Pipeline/FrameBody.lean `View.canon`; the payloads are the skeleton's and the values stated above). -/
def out2_23 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : Vec F S256x2 .f32 :=
  View.canon [⟨r2_5, k2_pay38 (k2_pay58 x0 x1 x2 x3 x4 x5 x6 x7 x8 x9 x10 x11 x12 x13 x14 x15 x16 x17) (View.ld x10 r2_2) (View.ld x11 r2_3) (k2_pay59 x0 x1 x2 x3 x4 x5 x6 x7 x8 x9 x10 x11 x12 x13 x14 x15 x16 x17) (k2_pay60 x0 x1 x2 x3 x4 x5 x6 x7 x8 x9 x10 x11 x12 x13 x14 x15 x16 x17)⟩]

/-- Its stores tile the buffer (checked by evaluation), so they cover it. -/
theorem cover2_23 (p0 : Vec F S256x2 .f32) (y : S256x2.Idx) :
    ∃ pc ∈ ([⟨r2_5, p0⟩] : List (View.Piece (Elt F) S256x2 .f32)), y ∈ pc.1.set :=
  View.cover_of_tiled [⟨r2_5, p0⟩] S256x2.size (by rfl) y

/-- Window 24's staging buffer after the body, from the input windows' blocks: its 1 store as pieces, LAST
    FIRST (Lib/Pipeline/FrameBody.lean `View.canon`; the payloads are the skeleton's and the values stated above). -/
def out2_24 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : Vec F S256x1 .f32 :=
  View.canon [⟨r2_12, k2_pay41 (k2_pay57 x0 x1 x2 x3 x4 x5 x6 x7 x8 x9 x10 x11 x12 x13 x14 x15 x16 x17) (k2_pay39 (View.ld x12 r2_6)) (k2_pay40 (View.ld x13 r2_7)) (View.ld x14 r2_8) (View.ld x15 r2_9) (View.ld x16 r2_10) (View.ld x17 r2_11)⟩]

/-- Its stores tile the buffer (checked by evaluation), so they cover it. -/
theorem cover2_24 (p0 : Vec F S256x1 .f32) (y : S256x1.Idx) :
    ∃ pc ∈ ([⟨r2_12, p0⟩] : List (View.Piece (Elt F) S256x1 .f32)), y ∈ pc.1.set :=
  View.cover_of_tiled [⟨r2_12, p0⟩] S256x1.size (by rfl) y

/-- Window 25's staging buffer after the body, from the input windows' blocks: its 1 store as pieces, LAST
    FIRST (Lib/Pipeline/FrameBody.lean `View.canon`; the payloads are the skeleton's and the values stated above). -/
def out2_25 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : Vec F S256x1 .f32 :=
  View.canon [⟨r2_12, k2_pay45 (k2_pay58 x0 x1 x2 x3 x4 x5 x6 x7 x8 x9 x10 x11 x12 x13 x14 x15 x16 x17) (k2_pay42 (View.ld x12 r2_6)) (k2_pay43 (View.ld x13 r2_7)) (k2_pay44 (View.ld x14 r2_8)) (View.ld x15 r2_9) (View.ld x16 r2_10) (View.ld x17 r2_11)⟩]

/-- Its stores tile the buffer (checked by evaluation), so they cover it. -/
theorem cover2_25 (p0 : Vec F S256x1 .f32) (y : S256x1.Idx) :
    ∃ pc ∈ ([⟨r2_12, p0⟩] : List (View.Piece (Elt F) S256x1 .f32)), y ∈ pc.1.set :=
  View.cover_of_tiled [⟨r2_12, p0⟩] S256x1.size (by rfl) y

/-- Window 26's staging buffer after the body, from the input windows' blocks: its 1 store as pieces, LAST
    FIRST (Lib/Pipeline/FrameBody.lean `View.canon`; the payloads are the skeleton's and the values stated above). -/
def out2_26 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : Vec F S256x4096 .bf16 :=
  View.canon [⟨r2_1, k2_pay46 (View.ld x0 r2_1)⟩]

/-- Its stores tile the buffer (checked by evaluation), so they cover it. -/
theorem cover2_26 (p0 : Vec F S256x4096 .bf16) (y : S256x4096.Idx) :
    ∃ pc ∈ ([⟨r2_1, p0⟩] : List (View.Piece (Elt F) S256x4096 .bf16)), y ∈ pc.1.set :=
  View.cover_of_tiled [⟨r2_1, p0⟩] S256x4096.size (by rfl) y

/-- Window 27's staging buffer after the body, from the input windows' blocks: its 1 store as pieces, LAST
    FIRST (Lib/Pipeline/FrameBody.lean `View.canon`; the payloads are the skeleton's and the values stated above). -/
def out2_27 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : Vec F S256x4096 .bf16 :=
  View.canon [⟨r2_1, k2_pay47 (View.ld x2 r2_1)⟩]

/-- Its stores tile the buffer (checked by evaluation), so they cover it. -/
theorem cover2_27 (p0 : Vec F S256x4096 .bf16) (y : S256x4096.Idx) :
    ∃ pc ∈ ([⟨r2_1, p0⟩] : List (View.Piece (Elt F) S256x4096 .bf16)), y ∈ pc.1.set :=
  View.cover_of_tiled [⟨r2_1, p0⟩] S256x4096.size (by rfl) y

/-- Window 28's staging buffer after the body, from the input windows' blocks: its 1 store as pieces, LAST
    FIRST (Lib/Pipeline/FrameBody.lean `View.canon`; the payloads are the skeleton's and the values stated above). -/
def out2_28 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : Vec F S256x128 .bf16 :=
  View.canon [⟨r2_13, k2_pay48 (k2_pay57 x0 x1 x2 x3 x4 x5 x6 x7 x8 x9 x10 x11 x12 x13 x14 x15 x16 x17) (k2_pay61 x0 x1 x2 x3 x4 x5 x6 x7 x8 x9 x10 x11 x12 x13 x14 x15 x16 x17)⟩]

/-- Its stores tile the buffer (checked by evaluation), so they cover it. -/
theorem cover2_28 (p0 : Vec F S256x128 .bf16) (y : S256x128.Idx) :
    ∃ pc ∈ ([⟨r2_13, p0⟩] : List (View.Piece (Elt F) S256x128 .bf16)), y ∈ pc.1.set :=
  View.cover_of_tiled [⟨r2_13, p0⟩] S256x128.size (by rfl) y

/-- Window 29's staging buffer after the body, from the input windows' blocks: its 1 store as pieces, LAST
    FIRST (Lib/Pipeline/FrameBody.lean `View.canon`; the payloads are the skeleton's and the values stated above). -/
def out2_29 (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) : Vec F S256x128 .bf16 :=
  View.canon [⟨r2_13, k2_pay49 (k2_pay58 x0 x1 x2 x3 x4 x5 x6 x7 x8 x9 x10 x11 x12 x13 x14 x15 x16 x17) (k2_pay61 x0 x1 x2 x3 x4 x5 x6 x7 x8 x9 x10 x11 x12 x13 x14 x15 x16 x17)⟩]

/-- Its stores tile the buffer (checked by evaluation), so they cover it. -/
theorem cover2_29 (p0 : Vec F S256x128 .bf16) (y : S256x128.Idx) :
    ∃ pc ∈ ([⟨r2_13, p0⟩] : List (View.Piece (Elt F) S256x128 .bf16)), y ∈ pc.1.set :=
  View.cover_of_tiled [⟨r2_13, p0⟩] S256x128.size (by rfl) y

/-! ## The body's triple -/

set_option maxHeartbeats 4000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S64x64 .f32) (harg7 : arg7.IsWhole) (arg8 : Memref sig .tc .vmem S64x1 .f32) (harg8 : arg8.IsWhole) (arg9 : Memref sig .tc .vmem S64x64 .f32) (harg9 : arg9.IsWhole) (arg10 : Memref sig .tc .vmem S64x1 .f32) (harg10 : arg10.IsWhole) (arg11 : Memref sig .tc .vmem S64x64 .f32) (harg11 : arg11.IsWhole) (arg12 : Memref sig .tc .vmem S64x1 .f32) (harg12 : arg12.IsWhole) (arg13 : Memref sig .tc .vmem S64x50 .f32) (harg13 : arg13.IsWhole) (arg14 : Memref sig .tc .vmem S1x50 .f32) (harg14 : arg14.IsWhole) (arg15 : Memref sig .tc .vmem S50x100 .f32) (harg15 : arg15.IsWhole) (arg16 : Memref sig .tc .vmem S1x100 .f32) (harg16 : arg16.IsWhole) (arg17 : Memref sig .tc .vmem S100x1 .f32) (harg17 : arg17.IsWhole) (arg18 : Memref sig .tc .vmem S1x1 .f32) (harg18 : arg18.IsWhole) (arg19 : Memref sig .tc .vmem S256x64 .f32) (harg19 : arg19.IsWhole) (arg20 : Memref sig .tc .vmem S256x64 .f32) (harg20 : arg20.IsWhole) (arg21 : Memref sig .tc .vmem S256x64 .f32) (harg21 : arg21.IsWhole) (arg22 : Memref sig .tc .vmem S256x2 .f32) (harg22 : arg22.IsWhole) (arg23 : Memref sig .tc .vmem S256x2 .f32) (harg23 : arg23.IsWhole) (arg24 : Memref sig .tc .vmem S256x2 .f32) (harg24 : arg24.IsWhole) (arg25 : Memref sig .tc .vmem S256x1 .f32) (harg25 : arg25.IsWhole) (arg26 : Memref sig .tc .vmem S256x1 .f32) (harg26 : arg26.IsWhole) (arg27 : Memref sig .tc .vmem S256x4096 .bf16) (harg27 : arg27.IsWhole) (arg28 : Memref sig .tc .vmem S256x4096 .bf16) (harg28 : arg28.IsWhole) (arg29 : Memref sig .tc .vmem S256x128 .bf16) (harg29 : arg29.IsWhole) (arg30 : Memref sig .tc .vmem S256x128 .bf16) (harg30 : arg30.IsWhole)
    (x0 : Vec F S256x4096 .f32) (x1 : Vec F S256x4096 .f32) (x2 : Vec F S256x4096 .f32) (x3 : Vec F S256x4096 .f32) (x4 : Vec F S4096x64 .f32) (x5 : Vec F S4096x64 .f32) (x6 : Vec F S64x64 .f32) (x7 : Vec F S64x1 .f32) (x8 : Vec F S64x64 .f32) (x9 : Vec F S64x1 .f32) (x10 : Vec F S64x64 .f32) (x11 : Vec F S64x1 .f32) (x12 : Vec F S64x50 .f32) (x13 : Vec F S1x50 .f32) (x14 : Vec F S50x100 .f32) (x15 : Vec F S1x100 .f32) (x16 : Vec F S100x1 .f32) (x17 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (out2_18 x0 x1 x2 x3 x4 x5 x6 x7 x8 x9 x10 x11 x12 x13 x14 x15 x16 x17) ∗ owns (c : Thread nD τ) arg20 fullShare (out2_19 x0 x1 x2 x3 x4 x5 x6 x7 x8 x9 x10 x11 x12 x13 x14 x15 x16 x17) ∗ owns (c : Thread nD τ) arg21 fullShare (out2_20 x0 x1 x2 x3 x4 x5 x6 x7 x8 x9 x10 x11 x12 x13 x14 x15 x16 x17) ∗ owns (c : Thread nD τ) arg22 fullShare (out2_21 x0 x1 x2 x3 x4 x5 x6 x7 x8 x9 x10 x11 x12 x13 x14 x15 x16 x17) ∗ owns (c : Thread nD τ) arg23 fullShare (out2_22 x0 x1 x2 x3 x4 x5 x6 x7 x8 x9 x10 x11 x12 x13 x14 x15 x16 x17) ∗ owns (c : Thread nD τ) arg24 fullShare (out2_23 x0 x1 x2 x3 x4 x5 x6 x7 x8 x9 x10 x11 x12 x13 x14 x15 x16 x17) ∗ owns (c : Thread nD τ) arg25 fullShare (out2_24 x0 x1 x2 x3 x4 x5 x6 x7 x8 x9 x10 x11 x12 x13 x14 x15 x16 x17) ∗ owns (c : Thread nD τ) arg26 fullShare (out2_25 x0 x1 x2 x3 x4 x5 x6 x7 x8 x9 x10 x11 x12 x13 x14 x15 x16 x17) ∗ owns (c : Thread nD τ) arg27 fullShare (out2_26 x0 x1 x2 x3 x4 x5 x6 x7 x8 x9 x10 x11 x12 x13 x14 x15 x16 x17) ∗ owns (c : Thread nD τ) arg28 fullShare (out2_27 x0 x1 x2 x3 x4 x5 x6 x7 x8 x9 x10 x11 x12 x13 x14 x15 x16 x17) ∗ owns (c : Thread nD τ) arg29 fullShare (out2_28 x0 x1 x2 x3 x4 x5 x6 x7 x8 x9 x10 x11 x12 x13 x14 x15 x16 x17) ∗ owns (c : Thread nD τ) arg30 fullShare (out2_29 x0 x1 x2 x3 x4 x5 x6 x7 x8 x9 x10 x11 x12 x13 x14 x15 x16 x17)) -∗ K ⟨⟩))
      ⊢ wp frame (wpE (defs₀ (F := F)) Variants.none c none) E (cc2__k2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc2__k2_body_eq_skeleton]; unfold cc2__k2_body_skel
  simp only [k2_part1_eq_skeleton, k2_part2_eq_skeleton, k2_part3_eq_skeleton, k2_part4_eq_skeleton, k2_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (View.read_writes_eq_canon _ _ _ (cover2_18 _)).trans ?_
    rfl
  isplitl [H19]
  · iexists _; isplitr
    swap; · iexact H19
    ipureintro
    refine (View.read_writes_eq_canon _ _ _ (cover2_19 _)).trans ?_
    rfl
  isplitl [H20]
  · iexists _; isplitr
    swap; · iexact H20
    ipureintro
    refine (View.read_writes_eq_canon _ _ _ (cover2_20 _)).trans ?_
    rfl
  isplitl [H21]
  · iexists _; isplitr
    swap; · iexact H21
    ipureintro
    refine (View.read_writes_eq_canon _ _ _ (cover2_21 _)).trans ?_
    rfl
  isplitl [H22]
  · iexists _; isplitr
    swap; · iexact H22
    ipureintro
    refine (View.read_writes_eq_canon _ _ _ (cover2_22 _)).trans ?_
    rfl
  isplitl [H23]
  · iexists _; isplitr
    swap; · iexact H23
    ipureintro
    refine (View.read_writes_eq_canon _ _ _ (cover2_23 _)).trans ?_
    rfl
  isplitl [H24]
  · iexists _; isplitr
    swap; · iexact H24
    ipureintro
    refine (View.read_writes_eq_canon _ _ _ (cover2_24 _)).trans ?_
    rfl
  isplitl [H25]
  · iexists _; isplitr
    swap; · iexact H25
    ipureintro
    refine (View.read_writes_eq_canon _ _ _ (cover2_25 _)).trans ?_
    rfl
  isplitl [H26]
  · iexists _; isplitr
    swap; · iexact H26
    ipureintro
    refine (View.read_writes_eq_canon _ _ _ (cover2_26 _)).trans ?_
    rfl
  isplitl [H27]
  · iexists _; isplitr
    swap; · iexact H27
    ipureintro
    refine (View.read_writes_eq_canon _ _ _ (cover2_27 _)).trans ?_
    rfl
  isplitl [H28]
  · iexists _; isplitr
    swap; · iexact H28
    ipureintro
    refine (View.read_writes_eq_canon _ _ _ (cover2_28 _)).trans ?_
    rfl
  iexists _; isplitr
  swap; · iexact H29
  ipureintro
  refine (View.read_writes_eq_canon _ _ _ (cover2_29 _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => out2_18 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t)
    | ⟨19, _⟩ => out2_19 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t)
    | ⟨20, _⟩ => out2_20 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t)
    | ⟨21, _⟩ => out2_21 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t)
    | ⟨22, _⟩ => out2_22 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t)
    | ⟨23, _⟩ => out2_23 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t)
    | ⟨24, _⟩ => out2_24 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t)
    | ⟨25, _⟩ => out2_25 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t)
    | ⟨26, _⟩ => out2_26 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t)
    | ⟨27, _⟩ => out2_27 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t)
    | ⟨28, _⟩ => out2_28 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t)
    | ⟨29, _⟩ => out2_29 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t)
    | ⟨_ + 30, h⟩ => absurd h (Nat.not_lt.2 (Nat.le_add_left _ _))
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = iblk2 V c 16 t := by dsimp only [dat2]
theorem after2_17 (c : Dev nD) (t : Fin cfg2.N) : (dat2 V c).after 17 t = iblk2 V c 17 t := by dsimp only [dat2]
theorem after2_18 (c : Dev nD) (t : Fin cfg2.N) : (dat2 V c).after 18 t = out2_18 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) := by dsimp only [dat2]
theorem after2_19 (c : Dev nD) (t : Fin cfg2.N) : (dat2 V c).after 19 t = out2_19 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) := by dsimp only [dat2]
theorem after2_20 (c : Dev nD) (t : Fin cfg2.N) : (dat2 V c).after 20 t = out2_20 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) := by dsimp only [dat2]
theorem after2_21 (c : Dev nD) (t : Fin cfg2.N) : (dat2 V c).after 21 t = out2_21 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) := by dsimp only [dat2]
theorem after2_22 (c : Dev nD) (t : Fin cfg2.N) : (dat2 V c).after 22 t = out2_22 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) := by dsimp only [dat2]
theorem after2_23 (c : Dev nD) (t : Fin cfg2.N) : (dat2 V c).after 23 t = out2_23 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) := by dsimp only [dat2]
theorem after2_24 (c : Dev nD) (t : Fin cfg2.N) : (dat2 V c).after 24 t = out2_24 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) := by dsimp only [dat2]
theorem after2_25 (c : Dev nD) (t : Fin cfg2.N) : (dat2 V c).after 25 t = out2_25 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) := by dsimp only [dat2]
theorem after2_26 (c : Dev nD) (t : Fin cfg2.N) : (dat2 V c).after 26 t = out2_26 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) := by dsimp only [dat2]
theorem after2_27 (c : Dev nD) (t : Fin cfg2.N) : (dat2 V c).after 27 t = out2_27 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) := by dsimp only [dat2]
theorem after2_28 (c : Dev nD) (t : Fin cfg2.N) : (dat2 V c).after 28 t = out2_28 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) := by dsimp only [dat2]
theorem after2_29 (c : Dev nD) (t : Fin cfg2.N) : (dat2 V c).after 29 t = out2_29 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_15 (c : Dev nD) (t : Fin cfg2.N) (d) : (dat2 V c).before 15 t d = iblk2 V c 15 t :=
  before2_15_of V (dat2 V c) (A_eq2 V c 15) (after2_15 V c) t d
theorem before2_16 (c : Dev nD) (t : Fin cfg2.N) (d) : (dat2 V c).before 16 t d = iblk2 V c 16 t :=
  before2_16_of V (dat2 V c) (A_eq2 V c 16) (after2_16 V c) t d
theorem before2_17 (c : Dev nD) (t : Fin cfg2.N) (d) : (dat2 V c).before 17 t d = iblk2 V c 17 t :=
  before2_17_of V (dat2 V c) (A_eq2 V c 17) (after2_17 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d))
    ∗ (∃ d, owns (c : Thread nD τ) (st2_17 t) fullShare ((dat2 V c).before 17 t d))
    ∗ (∃ d, owns (c : Thread nD τ) (st2_18 t) fullShare ((dat2 V c).before 18 t d))
    ∗ (∃ d, owns (c : Thread nD τ) (st2_19 t) fullShare ((dat2 V c).before 19 t d))
    ∗ (∃ d, owns (c : Thread nD τ) (st2_20 t) fullShare ((dat2 V c).before 20 t d))
    ∗ (∃ d, owns (c : Thread nD τ) (st2_21 t) fullShare ((dat2 V c).before 21 t d))
    ∗ (∃ d, owns (c : Thread nD τ) (st2_22 t) fullShare ((dat2 V c).before 22 t d))
    ∗ (∃ d, owns (c : Thread nD τ) (st2_23 t) fullShare ((dat2 V c).before 23 t d))
    ∗ (∃ d, owns (c : Thread nD τ) (st2_24 t) fullShare ((dat2 V c).before 24 t d))
    ∗ (∃ d, owns (c : Thread nD τ) (st2_25 t) fullShare ((dat2 V c).before 25 t d))
    ∗ (∃ d, owns (c : Thread nD τ) (st2_26 t) fullShare ((dat2 V c).before 26 t d))
    ∗ (∃ d, owns (c : Thread nD τ) (st2_27 t) fullShare ((dat2 V c).before 27 t d))
    ∗ (∃ d, owns (c : Thread nD τ) (st2_28 t) fullShare ((dat2 V c).before 28 t d))
    ∗ (∃ d, owns (c : Thread nD τ) (st2_29 t) fullShare ((dat2 V c).before 29 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t)
    ∗ owns (c : Thread nD τ) (st2_17 t) fullShare ((dat2 V c).after 17 t)
    ∗ owns (c : Thread nD τ) (st2_18 t) fullShare ((dat2 V c).after 18 t)
    ∗ owns (c : Thread nD τ) (st2_19 t) fullShare ((dat2 V c).after 19 t)
    ∗ owns (c : Thread nD τ) (st2_20 t) fullShare ((dat2 V c).after 20 t)
    ∗ owns (c : Thread nD τ) (st2_21 t) fullShare ((dat2 V c).after 21 t)
    ∗ owns (c : Thread nD τ) (st2_22 t) fullShare ((dat2 V c).after 22 t)
    ∗ owns (c : Thread nD τ) (st2_23 t) fullShare ((dat2 V c).after 23 t)
    ∗ owns (c : Thread nD τ) (st2_24 t) fullShare ((dat2 V c).after 24 t)
    ∗ owns (c : Thread nD τ) (st2_25 t) fullShare ((dat2 V c).after 25 t)
    ∗ owns (c : Thread nD τ) (st2_26 t) fullShare ((dat2 V c).after 26 t)
    ∗ owns (c : Thread nD τ) (st2_27 t) fullShare ((dat2 V c).after 27 t)
    ∗ owns (c : Thread nD τ) (st2_28 t) fullShare ((dat2 V c).after 28 t)
    ∗ owns (c : Thread nD τ) (st2_29 t) fullShare ((dat2 V c).after 29 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14, before2_15, before2_16, before2_17]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16, after2_17, after2_18, after2_19, after2_20, after2_21, after2_22, after2_23, after2_24, after2_25, after2_26, after2_27, after2_28, after2_29]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (sound_kernel2 c Set.univ (grid2.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  iintro ⟨H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Whole

end
-- ==== Proof.KernelIdeal.Fold.lean ====
/-
  KernelIdeal: the buffer contents at every boundary of @main.
  The text is the generated one, at a larger heartbeat budget in the attention region and over it from there on:
  that region has thirty windows, more than the default budget reaches.
-/
module

public import proofs.«01_k».proof.Proof.Gen.KernelIdeal.Frame.Region0
public import proofs.«01_k».proof.Proof.Gen.KernelIdeal.Frame.Region1
public import proofs.«01_k».proof.Proof.KernelIdeal.Region2
public import proofs.«01_k».proof.Proof.Gen.KernelIdeal.Frame.Region3
public import proofs.«01_k».proof.Proof.Gen.KernelIdeal.Frame.Region4
public import proofs.«01_k».proof.Proof.Gen.KernelIdeal.Frame.Hosts0

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`) (region 1's entry). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After `hostOps2` (region 2's entry). -/
abbrev W3 : Dev nD → Valuation τ sig (Elt F) := fun c => StableHlo.after hostOps2 (W2 m ρ c)
/-- A reference `hostOps2` does not write keeps its contents across it. -/
theorem W3_of (c : Dev nD) (r : Ref sig .tc) (h : r ∉ hostOps2_W) : W3 m ρ c (Proc.devRef .tc r) = W2 m ρ c (Proc.devRef .tc r) :=
  StableHlo.after_of_writes_sub hostOps2 _ hostOps2_writes h
theorem W3_args (c : Dev nD) : ∀ a ∈ argRefs, W3 m ρ c (Proc.devRef .tc a) = m ((c : Thread nD τ).loc a) :=
  fun a ha => (W3_of m ρ c a (hostOps2_args a ha)).trans (W2_args m ρ c a ha)
/-- The same read at the TensorCore's references (what region 2's proof data take). -/
abbrev V3 : (c : Dev nD) → (b : Ref sig .tc) → Buf (Elt F) ((c : Thread nD τ).loc b) := fun c b => W3 m ρ c b
/-- At region 2's exit: its arrays at what the pipeline leaves (the inputs as entered, each output's write-backs
    folded: `Dat.arrAt … N`), every other buffer as entered (Lib/Pipeline/FrameSuffix.lean `withArrays`) (region 3's entry). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, each output's write-backs
    folded: `Dat.arrAt … N`), every other buffer as entered (Lib/Pipeline/FrameSuffix.lean `withArrays`) (region 4's entry). -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- A reference that is none of region 3's OUTPUT arrays keeps its entry contents across it: an input window's
    array is never written back (`Dat.arrAt_in`, `A_eq3`); any other buffer is left as is. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- A reference that is none of region 4's OUTPUT arrays keeps its entry contents across it: an input window's
    array is never written back (`Dat.arrAt_in`, `A_eq4`); any other buffer is left as is. -/
theorem W6_of (c : Dev nD) (r : Ref sig .tc) (h : ∀ w : Fin cfg4.W, Pipeline.arrRef spec4 w = r → (cfg4.win w).isOut = false) :
    W6 m ρ c (Proc.devRef .tc r) = W5 m ρ c (Proc.devRef .tc r) := by
  by_cases hw : ∃ w : Fin cfg4.W, Pipeline.arrRef spec4 w = r
  · obtain ⟨w, rfl⟩ := hw
    exact (W6_arr m ρ c w).trans (((dat4 (V5 m ρ) c).arrAt_in w (h w rfl) _).trans (A_eq4 (V5 m ρ) c w))
  · exact W6_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn4 a ha)).trans (W5_args m ρ c a ha)
/-- The same read at the TensorCore's references (region 4's exit contents). -/
abbrev V6 : (c : Dev nD) → (b : Ref sig .tc) → Buf (Elt F) ((c : Thread nD τ).loc b) := fun c b => W6 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- After `hostOps5`. -/
abbrev W7 : Dev nD → Valuation τ sig (Elt F) := fun c => StableHlo.after hostOps5 (W6 m ρ c)
/-- A reference `hostOps5` does not write keeps its contents across it. -/
theorem W7_of (c : Dev nD) (r : Ref sig .tc) (h : r ∉ hostOps5_W) : W7 m ρ c (Proc.devRef .tc r) = W6 m ρ c (Proc.devRef .tc r) :=
  StableHlo.after_of_writes_sub hostOps5 _ hostOps5_writes h
theorem W7_args (c : Dev nD) : ∀ a ∈ argRefs, W7 m ρ c (Proc.devRef .tc a) = m ((c : Thread nD τ).loc a) :=
  fun a ha => (W7_of m ρ c a (hostOps5_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
theorem W7_main_arg6 (c : Dev nD) : W7 m ρ c (Proc.devRef .tc main_arg6) = m ((c : Thread nD τ).loc main_arg6) :=
  W7_args m ρ c main_arg6 (by decide)
theorem W7_main_arg7 (c : Dev nD) : W7 m ρ c (Proc.devRef .tc main_arg7) = m ((c : Thread nD τ).loc main_arg7) :=
  W7_args m ρ c main_arg7 (by decide)
theorem W7_main_arg8 (c : Dev nD) : W7 m ρ c (Proc.devRef .tc main_arg8) = m ((c : Thread nD τ).loc main_arg8) :=
  W7_args m ρ c main_arg8 (by decide)
theorem W7_main_arg9 (c : Dev nD) : W7 m ρ c (Proc.devRef .tc main_arg9) = m ((c : Thread nD τ).loc main_arg9) :=
  W7_args m ρ c main_arg9 (by decide)
theorem W7_main_arg10 (c : Dev nD) : W7 m ρ c (Proc.devRef .tc main_arg10) = m ((c : Thread nD τ).loc main_arg10) :=
  W7_args m ρ c main_arg10 (by decide)
theorem W7_main_arg11 (c : Dev nD) : W7 m ρ c (Proc.devRef .tc main_arg11) = m ((c : Thread nD τ).loc main_arg11) :=
  W7_args m ρ c main_arg11 (by decide)
theorem W7_main_arg12 (c : Dev nD) : W7 m ρ c (Proc.devRef .tc main_arg12) = m ((c : Thread nD τ).loc main_arg12) :=
  W7_args m ρ c main_arg12 (by decide)
theorem W7_main_arg13 (c : Dev nD) : W7 m ρ c (Proc.devRef .tc main_arg13) = m ((c : Thread nD τ).loc main_arg13) :=
  W7_args m ρ c main_arg13 (by decide)
theorem W7_main_arg14 (c : Dev nD) : W7 m ρ c (Proc.devRef .tc main_arg14) = m ((c : Thread nD τ).loc main_arg14) :=
  W7_args m ρ c main_arg14 (by decide)
theorem W7_main_arg15 (c : Dev nD) : W7 m ρ c (Proc.devRef .tc main_arg15) = m ((c : Thread nD τ).loc main_arg15) :=
  W7_args m ρ c main_arg15 (by decide)
theorem W7_main_arg16 (c : Dev nD) : W7 m ρ c (Proc.devRef .tc main_arg16) = m ((c : Thread nD τ).loc main_arg16) :=
  W7_args m ρ c main_arg16 (by decide)
theorem W7_main_arg17 (c : Dev nD) : W7 m ρ c (Proc.devRef .tc main_arg17) = m ((c : Thread nD τ).loc main_arg17) :=
  W7_args m ρ c main_arg17 (by decide)
theorem W7_main_arg18 (c : Dev nD) : W7 m ρ c (Proc.devRef .tc main_arg18) = m ((c : Thread nD τ).loc main_arg18) :=
  W7_args m ρ c main_arg18 (by decide)
theorem W7_main_arg19 (c : Dev nD) : W7 m ρ c (Proc.devRef .tc main_arg19) = m ((c : Thread nD τ).loc main_arg19) :=
  W7_args m ρ c main_arg19 (by decide)
theorem W7_main_arg20 (c : Dev nD) : W7 m ρ c (Proc.devRef .tc main_arg20) = m ((c : Thread nD τ).loc main_arg20) :=
  W7_args m ρ c main_arg20 (by decide)
theorem W7_main_arg21 (c : Dev nD) : W7 m ρ c (Proc.devRef .tc main_arg21) = m ((c : Thread nD τ).loc main_arg21) :=
  W7_args m ρ c main_arg21 (by decide)
end Cert.KernelIdeal.Whole

end
-- ==== Proof.KernelIdeal.State.lean ====
/-
  KernelIdeal: the proof data of every region and the state between them.
  The text is the generated one, at a larger heartbeat budget in the attention region and over it from there on:
  that region has thirty windows, more than the default budget reaches.
-/
module

public import proofs.«01_k».proof.Proof.KernelIdeal.Fold

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
  | ⟨3, _⟩ => fun c => dat3 (V4 m ρ) c
  | ⟨4, _⟩ => fun c => dat4 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

end Cert.KernelIdeal.Whole

end
-- ==== Proof.KernelIdeal.Record0.lean ====
/-
  KernelIdeal: the record of region 0.
  The text is the generated one, at a larger heartbeat budget in the attention region and over it from there on:
  that region has thirty windows, more than the default budget reaches.
-/
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdeal.Record1.lean ====
/-
  KernelIdeal: the record of region 1.
  The text is the generated one, at a larger heartbeat budget in the attention region and over it from there on:
  that region has thirty windows, more than the default budget reaches.
-/
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdeal.Record2.lean ====
/-
  KernelIdeal: the record of region 2.
  The text is the generated one, at a larger heartbeat budget in the attention region and over it from there on:
  that region has thirty windows, more than the default budget reaches.
-/
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdeal.Record3.lean ====
/-
  KernelIdeal: the record of region 3.
  The text is the generated one, at a larger heartbeat budget in the attention region and over it from there on:
  that region has thirty windows, more than the default budget reaches.
-/
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdeal.Record4.lean ====
/-
  KernelIdeal: the record of region 4.
  The text is the generated one, at a larger heartbeat budget in the attention region and over it from there on:
  that region has thirty windows, more than the default budget reaches.
-/
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 4 (custom_call 4) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) (A_eq4 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdeal.Frame.lean ====
/-
  KernelIdeal: the segments of @main and the frame claim.
  The text is the generated one, at a larger heartbeat budget in the attention region and over it from there on:
  that region has thirty windows, more than the default budget reaches.
-/
module

public import proofs.«01_k».proof.Proof.KernelIdeal.Record0
public import proofs.«01_k».proof.Proof.KernelIdeal.Record1
public import proofs.«01_k».proof.Proof.KernelIdeal.Record2
public import proofs.«01_k».proof.Proof.KernelIdeal.Record3
public import proofs.«01_k».proof.Proof.KernelIdeal.Record4

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .region (reg3 m ρ),
    .region (reg4 m ρ),
    .host (hseg hostOps5 hostOps5_sub hostOps5_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W7_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨(h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c),
       (h c _ (mem_uc main_arg19 (by decide))).trans (W7_main_arg19 m ρ c),
       (h c _ (mem_uc main_arg20 (by decide))).trans (W7_main_arg20 m ρ c),
       (h c _ (mem_uc main_arg21 (by decide))).trans (W7_main_arg21 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h => h.1) (frame m ρ)

end Cert.KernelIdeal.Whole

end
-- ==== Proof.Mat.lean ====
/-
  The mathematics of the certificate, over plain matrices of extended reals (`Fin m → Fin n → EReal`): products, the
  two-way attention with its weights written as the kernel writes them and as the reference does, the discriminator,
  and the two facts that join the two programs — real matrices' products associate, and for real scores a product
  with a reciprocal is the quotient.
-/
module

public import Idealize.ShloMosaic.Lib.Pointwise

@[expose] public section

noncomputable section

namespace Cert.Mat

open Idealize.ShloMosaic

/-- An `m` by `n` matrix of extended reals. -/
abbrev Mat (m n : ℕ) := Fin m → Fin n → EReal

/-- A rank-two array as a matrix. -/
def toMat {m n : ℕ} (v : (⟨2, ![m, n]⟩ : Shape).Idx → EReal) : Mat m n := fun i j => v (ix2 i j)

/-- A matrix as a rank-two array. -/
def ofMat {m n : ℕ} (A : Mat m n) : (⟨2, ![m, n]⟩ : Shape).Idx → EReal := fun j => A (j 0) (j 1)

theorem toMat_ofMat {m n : ℕ} (A : Mat m n) : toMat (ofMat A) = A := rfl

theorem ofMat_toMat {m n : ℕ} (v : (⟨2, ![m, n]⟩ : Shape).Idx → EReal) : ofMat (toMat v) = v :=
  funext fun j => congrArg v (eq_ix2 j).symm

/-- Two arrays with the same entries are equal. -/
theorem toMat_inj {m n : ℕ} {v w : (⟨2, ![m, n]⟩ : Shape).Idx → EReal} (h : toMat v = toMat w) : v = w := by
  rw [← ofMat_toMat v, h, ofMat_toMat]

/-- The matrix product. -/
def mm {m k n : ℕ} (A : Mat m k) (B : Mat k n) : Mat m n := fun i j => ∑ l, A i l * B l j

/-- The constant the programs add to a score. -/
def eps : EReal := Ideal.ofBits .f32 0x358637BD#32

/-- The slope of the leaky rectifier. -/
def negSlope : EReal := Ideal.ofBits .f32 0x3C23D70A#32

/-- The attention score of every row of `X`: `tanh (X w) u + eps`. -/
def score {m : ℕ} (X : Mat m 64) (w : Mat 64 64) (u : Mat 64 1) : Fin m → EReal :=
  fun i => (∑ l, Ideal.tanh (mm X w i l) * u l 0) + eps

/-- The softmax weight of `x` among the scores `a` and `b`, as the kernel writes it: a product with a reciprocal. -/
def wK (a b x : EReal) : EReal :=
  Ideal.exp (x - max a b) * Ideal.div 1 (Ideal.exp (a - max a b) + Ideal.exp (b - max a b))

/-- The same weight as the reference writes it: a quotient. -/
def wR (a b x : EReal) : EReal :=
  Ideal.div (Ideal.exp (x - max a b)) (Ideal.exp (a - max a b) + Ideal.exp (b - max a b))

/-- The two weights of every row (a column each), the weight function given. -/
def alphas {m : ℕ} (wt : EReal → EReal → EReal → EReal) (X Y : Mat m 64) (w : Mat 64 64) (u : Mat 64 1) : Mat m 2 :=
  fun i j => if j.val < 1 then wt (score X w u i) (score Y w u i) (score X w u i)
    else wt (score X w u i) (score Y w u i) (score Y w u i)

/-- The attention of two matrices: their rows, weighted. -/
def att {m : ℕ} (wt : EReal → EReal → EReal → EReal) (X Y : Mat m 64) (w : Mat 64 64) (u : Mat 64 1) : Mat m 64 :=
  fun i j => X i j * alphas wt X Y w u i 0 + Y i j * alphas wt X Y w u i 1

/-- The leaky rectifier. -/
def leaky (x : EReal) : EReal := if 0 ≤ x then x else negSlope * x

/-- One hidden layer of the discriminator. -/
def layer {m k n : ℕ} (X : Mat m k) (w : Mat k n) (b : Mat 1 n) : Mat m n := fun i j => leaky (mm X w i j + b 0 j)

/-- The discriminator: two hidden layers and a logistic output. -/
def disc {m : ℕ} (X : Mat m 64) (w1 : Mat 64 50) (b1 : Mat 1 50) (w2 : Mat 50 100) (b2 : Mat 1 100) (w3 : Mat 100 1)
    (b3 : Mat 1 1) : Mat m 1 :=
  fun i j => Ideal.logistic (mm (layer (layer X w1 b1) w2 b2) w3 i j + b3 0 j)

/-- The transpose. -/
def tr {m n : ℕ} (A : Mat m n) : Mat n m := fun i j => A j i

/-- A bias vector as a matrix of one row. -/
def rowOf {n : ℕ} (b : (⟨1, ![n]⟩ : Shape).Idx → EReal) : Mat 1 n := fun _ j => b (ix1 j)

/-- Two matrices of 64 columns side by side. -/
def beside {m : ℕ} (A B : Mat m 64) : Mat m 128 :=
  fun i j => if h : j.val < 64 then A i ⟨j.val, h⟩ else B i ⟨j.val - 64, by omega⟩

/-- The first 64 columns of 128. -/
def left {m : ℕ} (A : Mat m 128) : Mat m 64 := fun i j => A i ⟨j.val, by omega⟩

/-- The last 64 columns of 128. -/
def right {m : ℕ} (A : Mat m 128) : Mat m 64 := fun i j => A i ⟨64 + j.val, by omega⟩

/-- An embedding: attention between the two products of adjacency rows with the projected features `T`. -/
def enc {m : ℕ} (wt : EReal → EReal → EReal → EReal) (A B : Mat m 4096) (T : Mat 4096 64) (w : Mat 64 64) (u : Mat 64 1) :
    Mat m 64 := att wt (mm A T) (mm B T) w u

/-- The attention weights of an embedding. -/
def encAlphas {m : ℕ} (wt : EReal → EReal → EReal → EReal) (A B : Mat m 4096) (T : Mat 4096 64) (w : Mat 64 64)
    (u : Mat 64 1) : Mat m 2 := alphas wt (mm A T) (mm B T) w u

theorem left_mm_beside {m k : ℕ} (X : Mat m k) (A B : Mat k 64) : left (mm X (beside A B)) = mm X A := by
  funext i j
  simp [left, mm, beside]

theorem right_mm_beside {m k : ℕ} (X : Mat m k) (A B : Mat k 64) : right (mm X (beside A B)) = mm X B := by
  funext i j
  simp [right, mm, beside]

/-! ## Blocks of 256 rows -/

/-- Rows `256 t` to `256 t + 255` of a matrix of 4096 rows. -/
def rows {n : ℕ} (t : ℕ) (ht : t < 16) (A : Mat 4096 n) : Mat 256 n := fun i j => A ⟨256 * t + i.val, by omega⟩ j

/-- A whole array at an index that lies in block `t` reads the block. -/
theorem ofMat_rows {n : ℕ} (G : Mat 4096 n) (t : ℕ) (ht : t < 16) (e : (⟨2, ![4096, n]⟩ : Shape).Idx)
    (y : (⟨2, ![256, n]⟩ : Shape).Idx) (h0 : (e 0).val = 256 * t + (y 0).val) (h1 : (e 1).val = (y 1).val) :
    ofMat G e = rows t ht G (y 0) (y 1) := by
  unfold ofMat rows
  rw [show e 0 = ⟨256 * t + (y 0).val, by have : (y 0).val < 256 := (y 0).isLt; omega⟩ from Fin.ext h0,
    show e 1 = y 1 from Fin.ext h1]
  rfl

/-- An array whose indices are those of block `t` of another holds the other's block. -/
theorem toMat_rows {n : ℕ} (B : (⟨2, ![256, n]⟩ : Shape).Idx → EReal) (A : (⟨2, ![4096, n]⟩ : Shape).Idx → EReal) (t : ℕ)
    (ht : t < 16) (h : ∀ i j, B (ix2 i j) = A (ix2 ⟨256 * t + i.val, by omega⟩ j)) : toMat B = rows t ht (toMat A) :=
  funext fun i => funext fun j => h i j

/-- A block that holds rows `256 t …` of `G`, at `y`, is the whole array `G` at the index `y` stands for. -/
theorem eq_ofMat_rows {n : ℕ} (f : (⟨2, ![256, n]⟩ : Shape).Idx → EReal) (G : Mat 4096 n) (t : ℕ) (ht : t < 16)
    (e : (⟨2, ![4096, n]⟩ : Shape).Idx) (y : (⟨2, ![256, n]⟩ : Shape).Idx) (hf : toMat f = rows t ht G)
    (h0 : (e 0).val = t * 256 + (y 0).val) (h1 : (e 1).val = (y 1).val) : f y = ofMat G e := by
  rw [ofMat_rows G t ht e y (by omega) h1, ← hf, ← ofMat_toMat f]
  rfl

/-- A block that is the whole array `G`, at `y`, is `G` at the same index. -/
theorem eq_ofMat {m n : ℕ} (f : (⟨2, ![m, n]⟩ : Shape).Idx → EReal) (G : Mat m n) (e y : (⟨2, ![m, n]⟩ : Shape).Idx)
    (hf : toMat f = G) (h0 : (e 0).val = (y 0).val) (h1 : (e 1).val = (y 1).val) : f y = ofMat G e := by
  obtain rfl : e = y := by
    rw [eq_ix2 e, eq_ix2 y, show e 0 = y 0 from Fin.ext h0, show e 1 = y 1 from Fin.ext h1]
  rw [← hf, ofMat_toMat]

/-! ## Real matrices -/

/-- Every entry is a real number. -/
def IsReal {m n : ℕ} (A : Mat m n) : Prop := ∃ R : Fin m → Fin n → ℝ, A = fun i j => ((R i j : ℝ) : EReal)

theorem IsReal.of_forall {m n : ℕ} {A : Mat m n} (h : ∀ i j, ∃ r : ℝ, A i j = r) : IsReal A :=
  ⟨fun i j => (h i j).choose, funext fun i => funext fun j => (h i j).choose_spec⟩

/-- A sum of reals is the real sum. -/
theorem coe_sum {ι : Type} [Fintype ι] (f : ι → ℝ) : ∑ i, ((f i : ℝ) : EReal) = ((∑ i, f i : ℝ) : EReal) := by
  classical
  have h : ∀ s : Finset ι, ∑ i ∈ s, ((f i : ℝ) : EReal) = ((∑ i ∈ s, f i : ℝ) : EReal) := fun s => by
    induction s using Finset.induction_on with
    | empty => simp
    | insert a s ha ih => rw [Finset.sum_insert ha, Finset.sum_insert ha, ih, EReal.coe_add]
  exact h _

/-- The product of real matrices is the real product. -/
theorem mm_coe {m k n : ℕ} (R : Matrix (Fin m) (Fin k) ℝ) (S : Matrix (Fin k) (Fin n) ℝ) :
    mm (fun i j => ((R i j : ℝ) : EReal)) (fun i j => ((S i j : ℝ) : EReal)) = fun i j => (((R * S) i j : ℝ) : EReal) := by
  funext i j
  simp only [mm, ← EReal.coe_mul, Matrix.mul_apply, coe_sum]

theorem IsReal.mm {m k n : ℕ} {A : Mat m k} {B : Mat k n} (hA : IsReal A) (hB : IsReal B) : IsReal (mm A B) := by
  obtain ⟨R, rfl⟩ := hA; obtain ⟨S, rfl⟩ := hB
  exact ⟨_, mm_coe R S⟩

/-- The product of real matrices associates. -/
theorem mm_assoc {m k n p : ℕ} {A : Mat m k} {B : Mat k n} {C : Mat n p} (hA : IsReal A) (hB : IsReal B) (hC : IsReal C) :
    mm (mm A B) C = mm A (mm B C) := by
  obtain ⟨R, rfl⟩ := hA; obtain ⟨S, rfl⟩ := hB; obtain ⟨T, rfl⟩ := hC
  have h (P : Matrix (Fin m) (Fin k) ℝ) (Q : Matrix (Fin k) (Fin n) ℝ) (U : Matrix (Fin n) (Fin p) ℝ) :
      Mat.mm (fun i j => (((P * Q) i j : ℝ) : EReal)) (fun i j => ((U i j : ℝ) : EReal))
        = Mat.mm (fun i j => ((P i j : ℝ) : EReal)) (fun i j => (((Q * U) i j : ℝ) : EReal)) := by
    rw [mm_coe (P * Q) U, mm_coe P (Q * U), Matrix.mul_assoc]
  rw [mm_coe R S, mm_coe S T]
  exact h R S T

/-! ## The attention on reals -/

/-- `tanh` of anything is real. -/
theorem tanh_real (x : EReal) : ∃ r : ℝ, Ideal.tanh x = r := by
  induction x using EReal.rec with
  | bot => exact ⟨-1, rfl⟩
  | coe r => exact ⟨Real.tanh r, rfl⟩
  | top => exact ⟨1, rfl⟩

/-- The printed constant of the scores is a real number. -/
theorem eps_real : ∃ r : ℝ, eps = r := by
  unfold eps Ideal.ofBits Ideal.ieee
  have h : ¬ ((BitVec.extractLsb' 23 8 0x358637BD#32).toNat = 2 ^ 8 - 1) := by decide
  simp only [h, if_false]
  exact ⟨_, rfl⟩

/-- The score of a row is real, whatever the row, when the output vector is real. -/
theorem score_real {m : ℕ} (X : Mat m 64) (w : Mat 64 64) {u : Mat 64 1} (hu : IsReal u) (i : Fin m) :
    ∃ r : ℝ, score X w u i = r := by
  obtain ⟨R, rfl⟩ := hu
  obtain ⟨e, he⟩ := eps_real
  choose t ht using fun l => tanh_real (mm X w i l)
  exact ⟨(∑ l, t l * R l 0) + e, by simp only [score, ht, he, ← EReal.coe_mul, coe_sum, EReal.coe_add]⟩

theorem exp_coe' (r : ℝ) : Ideal.exp (r : EReal) = ((Real.exp r : ℝ) : EReal) := rfl

/-- For real scores the two spellings of the weight agree, and the weight is real. -/
theorem wK_eq_wR (a b x : ℝ) : wK a b x = wR a b x ∧ ∃ r : ℝ, wK a b x = r := by
  have hm : max (a : EReal) b = ((max a b : ℝ) : EReal) := (EReal.coe_strictMono.monotone.map_max).symm
  have hd : Real.exp (a - max a b) + Real.exp (b - max a b) ≠ 0 := by positivity
  have hd' : ((Real.exp (a - max a b) + Real.exp (b - max a b) : ℝ) : EReal) ≠ 0 := by
    exact_mod_cast hd
  have h1 : wK a b x = ((Real.exp (x - max a b) * (Real.exp (a - max a b) + Real.exp (b - max a b))⁻¹ : ℝ) : EReal) := by
    simp only [wK, hm, ← EReal.coe_sub, exp_coe', ← EReal.coe_add]
    unfold Ideal.div
    rw [if_neg hd', one_mul, ← EReal.coe_inv, ← EReal.coe_mul]
  have h2 : wR a b x = ((Real.exp (x - max a b) * (Real.exp (a - max a b) + Real.exp (b - max a b))⁻¹ : ℝ) : EReal) := by
    simp only [wR, hm, ← EReal.coe_sub, exp_coe', ← EReal.coe_add]
    unfold Ideal.div
    rw [if_neg hd', ← EReal.coe_inv, ← EReal.coe_mul]
  exact ⟨h1.trans h2.symm, _, h1⟩

/-- With a real output vector the two spellings of the weights agree. -/
theorem alphas_eq {m : ℕ} (X Y : Mat m 64) (w : Mat 64 64) {u : Mat 64 1} (hu : IsReal u) :
    alphas wK X Y w u = alphas wR X Y w u := by
  funext i j
  obtain ⟨a, ha⟩ := score_real X w hu i
  obtain ⟨b, hb⟩ := score_real Y w hu i
  simp only [alphas, ha, hb, (wK_eq_wR _ _ _).1]

/-- ... and so do the two attentions. -/
theorem att_eq {m : ℕ} (X Y : Mat m 64) (w : Mat 64 64) {u : Mat 64 1} (hu : IsReal u) :
    att wK X Y w u = att wR X Y w u := by
  funext i j
  simp only [att, alphas_eq X Y w hu]

/-- The weights are real. -/
theorem alphas_real {m : ℕ} (X Y : Mat m 64) (w : Mat 64 64) {u : Mat 64 1} (hu : IsReal u) :
    IsReal (alphas wK X Y w u) := by
  refine IsReal.of_forall fun i j => ?_
  obtain ⟨a, ha⟩ := score_real X w hu i
  obtain ⟨b, hb⟩ := score_real Y w hu i
  simp only [alphas, ha, hb]
  split_ifs
  · exact (wK_eq_wR a b a).2
  · exact (wK_eq_wR a b b).2

/-- The attention of real matrices is real. -/
theorem att_real {m : ℕ} {X Y : Mat m 64} (w : Mat 64 64) {u : Mat 64 1} (hX : IsReal X) (hY : IsReal Y) (hu : IsReal u) :
    IsReal (att wK X Y w u) := by
  obtain ⟨A, hA⟩ := alphas_real X Y w hu
  obtain ⟨R, rfl⟩ := hX; obtain ⟨S, rfl⟩ := hY
  exact ⟨fun i j => R i j * A i 0 + S i j * A i 1, by
    funext i j; simp only [att, hA, ← EReal.coe_mul, ← EReal.coe_add]⟩

end Cert.Mat

end
-- ==== Proof.Model.lean ====
/-
  The mathematics of the whole program over its matrices of arguments: what the kernel computes, what the reference
  computes, and that they agree when the arguments are real.
-/
module
public import proofs.«01_k».proof.Proof.Mat
@[expose] public section
noncomputable section
namespace Cert.Mat

/-- The arguments as matrices; the discriminator's weights already transposed, its biases as rows. -/
structure Args where
  feat1 : Mat 4096 3000
  feat2 : Mat 4096 3000
  a11 : Mat 4096 4096
  a12 : Mat 4096 4096
  a21 : Mat 4096 4096
  a22 : Mat 4096 4096
  We1 : Mat 3000 64
  Wd1 : Mat 64 3000
  We2 : Mat 3000 64
  Wd2 : Mat 64 3000
  w1 : Mat 64 64
  u1 : Mat 64 1
  w2 : Mat 64 64
  u2 : Mat 64 1
  wc : Mat 64 64
  uc : Mat 64 1
  d1 : Mat 64 50
  b1 : Mat 1 50
  d2 : Mat 50 100
  b2 : Mat 1 100
  d3 : Mat 100 1
  b3 : Mat 1 1

/-- The arguments the equation needs real. -/
structure Args.Real (A : Args) : Prop where
  feat1 : IsReal A.feat1
  feat2 : IsReal A.feat2
  a11 : IsReal A.a11
  a12 : IsReal A.a12
  a21 : IsReal A.a21
  a22 : IsReal A.a22
  We1 : IsReal A.We1
  Wd1 : IsReal A.Wd1
  We2 : IsReal A.We2
  Wd2 : IsReal A.Wd2
  u1 : IsReal A.u1
  u2 : IsReal A.u2
  uc : IsReal A.uc

namespace Args
variable (A : Args) (wt : EReal → EReal → EReal → EReal)

/-- The first features projected. -/
def t1 : Mat 4096 64 := mm A.feat1 A.We1
/-- The second features projected. -/
def t2 : Mat 4096 64 := mm A.feat2 A.We2
/-- The first embedding. -/
def E1 : Mat 4096 64 := enc wt A.a11 A.a12 A.t1 A.w1 A.u1
/-- The second embedding. -/
def E2 : Mat 4096 64 := enc wt A.a21 A.a22 A.t2 A.w2 A.u2
/-- The common embedding. -/
def C : Mat 4096 64 := att wt (A.E1 wt) (A.E2 wt) A.wc A.uc
/-- The attention weights of the first embedding. -/
def al1 : Mat 4096 2 := encAlphas wt A.a11 A.a12 A.t1 A.w1 A.u1
/-- The attention weights of the second embedding. -/
def al2 : Mat 4096 2 := encAlphas wt A.a21 A.a22 A.t2 A.w2 A.u2
/-- The attention weights of the common embedding. -/
def al12 : Mat 4096 2 := alphas wt (A.E1 wt) (A.E2 wt) A.wc A.uc
/-- The discriminator of the first embedding. -/
def s1 : Mat 4096 1 := disc (A.E1 wt) A.d1 A.b1 A.d2 A.b2 A.d3 A.b3
/-- The discriminator of the second embedding. -/
def s2 : Mat 4096 1 := disc (A.E2 wt) A.d1 A.b1 A.d2 A.b2 A.d3 A.b3

/-! The reconstructions, the products taken from the left as the kernel takes them, and from the right as the reference
does. -/

def r1K : Mat 4096 3000 := mm (mm A.a11 (A.C wK)) A.Wd1
def r2K : Mat 4096 3000 := mm (mm A.a21 (A.C wK)) A.Wd2
def l1K : Mat 4096 64 := mm A.a21 (mm (mm A.a21 (A.E1 wK)) (mm A.Wd2 A.We2))
def l2K : Mat 4096 64 := mm A.a11 (mm (mm A.a11 (A.E2 wK)) (mm A.Wd1 A.We1))
def r1R : Mat 4096 3000 := mm A.a11 (mm (A.C wR) A.Wd1)
def r2R : Mat 4096 3000 := mm A.a21 (mm (A.C wR) A.Wd2)
def l1R : Mat 4096 64 := mm A.a21 (mm (mm A.a21 (mm (A.E1 wR) A.Wd2)) A.We2)
def l2R : Mat 4096 64 := mm A.a11 (mm (mm A.a11 (mm (A.E2 wR) A.Wd1)) A.We1)

variable {A} (h : A.Real)
include h

theorem E1_eq : A.E1 wK = A.E1 wR := att_eq _ _ _ h.u1
theorem E2_eq : A.E2 wK = A.E2 wR := att_eq _ _ _ h.u2
theorem C_eq : A.C wK = A.C wR := by
  unfold C
  rw [E1_eq h, E2_eq h]
  exact att_eq _ _ _ h.uc
theorem al1_eq : A.al1 wK = A.al1 wR := alphas_eq _ _ _ h.u1
theorem al2_eq : A.al2 wK = A.al2 wR := alphas_eq _ _ _ h.u2
theorem al12_eq : A.al12 wK = A.al12 wR := by
  unfold al12
  rw [E1_eq h, E2_eq h]
  exact alphas_eq _ _ _ h.uc
theorem s1_eq : A.s1 wK = A.s1 wR := by
  unfold s1
  rw [E1_eq h]
theorem s2_eq : A.s2 wK = A.s2 wR := by
  unfold s2
  rw [E2_eq h]

theorem E1_real : IsReal (A.E1 wK) :=
  att_real _ (h.a11.mm (h.feat1.mm h.We1)) (h.a12.mm (h.feat1.mm h.We1)) h.u1
theorem E2_real : IsReal (A.E2 wK) :=
  att_real _ (h.a21.mm (h.feat2.mm h.We2)) (h.a22.mm (h.feat2.mm h.We2)) h.u2
theorem C_real : IsReal (A.C wK) := att_real _ (E1_real h) (E2_real h) h.uc

theorem r1_eq : A.r1K = A.r1R := by
  unfold r1K r1R
  rw [← C_eq h, mm_assoc h.a11 (C_real h) h.Wd1]
theorem r2_eq : A.r2K = A.r2R := by
  unfold r2K r2R
  rw [← C_eq h, mm_assoc h.a21 (C_real h) h.Wd2]

omit h in
/-- A product of four, regrouped: `(a e) (d w) = (a (e d)) w`. -/
theorem regroup {a : Mat 4096 4096} {e : Mat 4096 64} {d : Mat 64 3000} {w : Mat 3000 64} (ha : IsReal a) (he : IsReal e)
    (hd : IsReal d) (hw : IsReal w) : mm (mm a e) (mm d w) = mm (mm a (mm e d)) w := by
  rw [← mm_assoc (ha.mm he) hd hw, mm_assoc ha he hd]

theorem l1_eq : A.l1K = A.l1R := by
  unfold l1K l1R
  rw [← E1_eq h, regroup h.a21 (E1_real h) h.Wd2 h.We2]
theorem l2_eq : A.l2K = A.l2R := by
  unfold l2K l2R
  rw [← E2_eq h, regroup h.a11 (E2_real h) h.Wd1 h.We1]

end Args
end Cert.Mat
end
-- ==== Proof.Pay.lean ====
/-
  What one block of each region computes: every stored payload of the kernel's bodies, read as a matrix, as the plain
  mathematics of `Mat` over the blocks loaded.
-/
module
public import proofs.«01_k».proof.Proof.Mat
public import proofs.«01_k».proof.Proof.Gen.KernelIdeal.Skeleton
@[expose] public section
set_option maxRecDepth 16384
noncomputable section
namespace Cert.KernelIdeal.Pay
open Idealize.ShloMosaic Cert.Mat Cert.KernelIdeal.Gen

/-! ## Products: the payloads of regions 0, 1, 3 and 4, and the four products that open region 2 -/

theorem k0_pay1_mat (a : Vec Ideal S64x3000 .f32) (b : Vec Ideal S3000x64 .f32) :
    toMat (k0_pay1 a b) = mm (toMat a) (toMat b) := by
  funext i j; pointwise [k0_pay1, mm, toMat]
theorem k0_pay2_mat (a : Vec Ideal S64x3000 .f32) (b : Vec Ideal S3000x64 .f32) :
    toMat (k0_pay2 a b) = mm (toMat a) (toMat b) := by
  funext i j; pointwise [k0_pay2, mm, toMat]
theorem k1_pay1_mat (a : Vec Ideal S256x3000 .f32) (b : Vec Ideal S3000x64 .f32) :
    toMat (k1_pay1 a b) = mm (toMat a) (toMat b) := by
  funext i j; pointwise [k1_pay1, mm, toMat]
theorem k1_pay2_mat (a : Vec Ideal S256x3000 .f32) (b : Vec Ideal S3000x64 .f32) :
    toMat (k1_pay2 a b) = mm (toMat a) (toMat b) := by
  funext i j; pointwise [k1_pay2, mm, toMat]
theorem k4_pay1_mat (a : Vec Ideal S256x4096 .bf16) (b : Vec Ideal S4096x64 .f32) :
    toMat (k4_pay1 a b) = mm (toMat a) (toMat b) := by
  funext i j; pointwise [k4_pay1, mm, toMat]
theorem k4_pay2_mat (a : Vec Ideal S256x4096 .bf16) (b : Vec Ideal S4096x64 .f32) :
    toMat (k4_pay2 a b) = mm (toMat a) (toMat b) := by
  funext i j; pointwise [k4_pay2, mm, toMat]
theorem k3_pay3_mat (a : Vec Ideal S256x4096 .bf16) (b : Vec Ideal S4096x128 .bf16) (w : Vec Ideal S64x3000 .f32) :
    toMat (k3_pay3 a b w) = mm (left (mm (toMat a) (toMat b))) (toMat w) := by
  funext i j; pointwise [k3_pay3, k3_pay1, mm, toMat, left]
theorem k3_pay4_mat (a : Vec Ideal S256x4096 .bf16) (b : Vec Ideal S4096x128 .bf16) (w : Vec Ideal S64x3000 .f32) :
    toMat (k3_pay4 a b w) = mm (left (mm (toMat a) (toMat b))) (toMat w) := by
  funext i j; pointwise [k3_pay4, k3_pay2, mm, toMat, left]
theorem k3_pay5_mat (a : Vec Ideal S256x4096 .bf16) (b : Vec Ideal S4096x128 .bf16) (w : Vec Ideal S64x64 .f32) :
    toMat (k3_pay5 a b w) = mm (right (mm (toMat a) (toMat b))) (toMat w) := by
  funext i j; pointwise [k3_pay5, k3_pay2, mm, toMat, right]
theorem k3_pay6_mat (a : Vec Ideal S256x4096 .bf16) (b : Vec Ideal S4096x128 .bf16) (w : Vec Ideal S64x64 .f32) :
    toMat (k3_pay6 a b w) = mm (right (mm (toMat a) (toMat b))) (toMat w) := by
  funext i j; pointwise [k3_pay6, k3_pay1, mm, toMat, right]

theorem k2_pay3_mat (a : Vec Ideal S4096x64 .f32) (b : Vec Ideal S256x4096 .f32) :
    toMat (k2_pay3 a b) = mm (toMat b) (toMat a) := by
  funext i j; pointwise [k2_pay3, k2_pay1, mm, toMat]
theorem k2_pay4_mat (a : Vec Ideal S4096x64 .f32) (b : Vec Ideal S256x4096 .f32) :
    toMat (k2_pay4 a b) = mm (toMat b) (toMat a) := by
  funext i j; pointwise [k2_pay4, k2_pay1, mm, toMat]
theorem k2_pay5_mat (a : Vec Ideal S4096x64 .f32) (b : Vec Ideal S256x4096 .f32) :
    toMat (k2_pay5 a b) = mm (toMat b) (toMat a) := by
  funext i j; pointwise [k2_pay5, k2_pay2, mm, toMat]
theorem k2_pay6_mat (a : Vec Ideal S4096x64 .f32) (b : Vec Ideal S256x4096 .f32) :
    toMat (k2_pay6 a b) = mm (toMat b) (toMat a) := by
  funext i j; pointwise [k2_pay6, k2_pay2, mm, toMat]

/-! ## Scores: each is `tanh (X w) u + eps` of its product or attended matrix -/

theorem k2_pay7_apply (a : Vec Ideal S4096x64 .f32) (b : Vec Ideal S256x4096 .f32) (w : Vec Ideal S64x64 .f32) (u : Vec Ideal S64x1 .f32)
    (i : Fin 256) (j : Fin 1) :
    k2_pay7 a b w u (ix2 i j) = score (toMat (k2_pay3 a b)) (toMat w) (toMat u) i := by
  obtain rfl := Subsingleton.elim 0 j
  pointwise [k2_pay7, score, mm, toMat, eps]
theorem k2_pay8_apply (a : Vec Ideal S4096x64 .f32) (b : Vec Ideal S256x4096 .f32) (w : Vec Ideal S64x64 .f32) (u : Vec Ideal S64x1 .f32)
    (i : Fin 256) (j : Fin 1) :
    k2_pay8 a b w u (ix2 i j) = score (toMat (k2_pay4 a b)) (toMat w) (toMat u) i := by
  obtain rfl := Subsingleton.elim 0 j
  pointwise [k2_pay8, score, mm, toMat, eps]
theorem k2_pay17_apply (x : FVec Ideal S256x64 .f32) (w : Vec Ideal S64x64 .f32) (u : Vec Ideal S64x1 .f32) (i : Fin 256) (j : Fin 1) :
    k2_pay17 x w u (ix2 i j) = score (toMat x) (toMat w) (toMat u) i := by
  obtain rfl := Subsingleton.elim 0 j
  pointwise [k2_pay17, score, mm, toMat, eps]
theorem k2_pay18_apply (x : FVec Ideal S256x64 .f32) (w : Vec Ideal S64x64 .f32) (u : Vec Ideal S64x1 .f32) (i : Fin 256) (j : Fin 1) :
    k2_pay18 x w u (ix2 i j) = score (toMat x) (toMat w) (toMat u) i := by
  obtain rfl := Subsingleton.elim 0 j
  pointwise [k2_pay18, score, mm, toMat, eps]
theorem k2_pay30_apply (x : FVec Ideal S256x64 .f32) (w : Vec Ideal S64x64 .f32) (u : Vec Ideal S64x1 .f32) (i : Fin 256) (j : Fin 1) :
    k2_pay30 x w u (ix2 i j) = score (toMat x) (toMat w) (toMat u) i := by
  obtain rfl := Subsingleton.elim 0 j
  pointwise [k2_pay30, score, mm, toMat, eps]
theorem k2_pay29_apply (v6 v8 : FVec Ideal S256x64 .f32) (v26 v28 v31 : FVec Ideal S256x1 .f32) (w : Vec Ideal S64x64 .f32) (u : Vec Ideal S64x1 .f32) (i : Fin 256) (j : Fin 1) :
    k2_pay29 (k2_pay27 v6 v8 v26 v28 v31 w u) k2_pay28 (ix2 i j) = score (toMat (k2_pay15 v6 v8 v26 v28 v31)) (toMat w) (toMat u) i := by
  obtain rfl := Subsingleton.elim 0 j
  pointwise [k2_pay29, k2_pay27, k2_pay28, score, mm, toMat, eps]

/-! ## Attention: the weights side by side, and the weighted rows -/

section E1
variable (a : Vec Ideal S4096x64 .f32) (x y : Vec Ideal S256x4096 .f32) (w : Vec Ideal S64x64 .f32) (u : Vec Ideal S64x1 .f32)

theorem k2_pay16_mat : toMat (k2_pay16 (k2_pay10 a x y w u) (k2_pay11 a x y w u) (k2_pay12 a x y w u))
    = alphas wK (toMat (k2_pay3 a x)) (toMat (k2_pay4 a y)) (toMat w) (toMat u) := by
  funext i j
  pointwise [toMat, k2_pay16, k2_pay13, k2_pay14, k2_pay10, k2_pay11, k2_pay12, k2_pay9, alphas, wK]
  simp only [k2_pay7_apply, k2_pay8_apply, dite_eq_ite]

theorem k2_pay15_mat :
    toMat (k2_pay15 (k2_pay3 a x) (k2_pay4 a y) (k2_pay10 a x y w u) (k2_pay11 a x y w u) (k2_pay12 a x y w u))
      = att wK (toMat (k2_pay3 a x)) (toMat (k2_pay4 a y)) (toMat w) (toMat u) := by
  funext i j
  pointwise [toMat, k2_pay15, k2_pay13, k2_pay14, k2_pay10, k2_pay11, k2_pay12, k2_pay9, att, alphas, wK]
  simp only [k2_pay7_apply, k2_pay8_apply]

end E1

section E2
variable (x y : FVec Ideal S256x64 .f32) (w : Vec Ideal S64x64 .f32) (u : Vec Ideal S64x1 .f32)

theorem k2_pay26_mat : toMat (k2_pay26 x y w u) = alphas wK (toMat x) (toMat y) (toMat w) (toMat u) := by
  funext i j
  pointwise [toMat, k2_pay26, k2_pay23, k2_pay24, k2_pay22, k2_pay21, k2_pay20, k2_pay19, alphas, wK]
  simp only [k2_pay17_apply, k2_pay18_apply, dite_eq_ite]

theorem k2_pay25_mat : toMat (k2_pay25 x y w u) = att wK (toMat x) (toMat y) (toMat w) (toMat u) := by
  funext i j
  pointwise [toMat, k2_pay25, k2_pay23, k2_pay24, k2_pay22, k2_pay21, k2_pay20, k2_pay19, att, alphas, wK]
  simp only [k2_pay17_apply, k2_pay18_apply]

end E2

section C
variable (v6 v8 : FVec Ideal S256x64 .f32) (v26 v28 v31 : FVec Ideal S256x1 .f32) (y : FVec Ideal S256x64 .f32)
  (w : Vec Ideal S64x64 .f32) (u : Vec Ideal S64x1 .f32)

theorem k2_pay38_mat :
    toMat (k2_pay38 y w u (k2_pay27 v6 v8 v26 v28 v31 w u) k2_pay28)
      = alphas wK (toMat (k2_pay15 v6 v8 v26 v28 v31)) (toMat y) (toMat w) (toMat u) := by
  funext i j
  pointwise [toMat, k2_pay38, k2_pay36, k2_pay35, k2_pay34, k2_pay33, k2_pay32, k2_pay31, alphas, wK]
  simp only [k2_pay29_apply, k2_pay30_apply, dite_eq_ite]

theorem k2_pay37_mat :
    toMat (k2_pay37 (k2_pay15 v6 v8 v26 v28 v31) y w u (k2_pay27 v6 v8 v26 v28 v31 w u) k2_pay28)
      = att wK (toMat (k2_pay15 v6 v8 v26 v28 v31)) (toMat y) (toMat w) (toMat u) := by
  funext i j
  pointwise [toMat, k2_pay37, k2_pay36, k2_pay35, k2_pay34, k2_pay33, k2_pay32, k2_pay31, att, alphas, wK]
  simp only [k2_pay29_apply, k2_pay30_apply]

end C

/-! ## The discriminator -/

section Disc
variable (x : FVec Ideal S256x64 .f32) (w1 : Vec Ideal S64x50 .f32) (b1 : Vec Ideal S1x50 .f32) (w2 : Vec Ideal S50x100 .f32)
  (b2 : Vec Ideal S1x100 .f32) (w3 : Vec Ideal S100x1 .f32) (b3 : Vec Ideal S1x1 .f32)

theorem k2_pay41_mat : toMat (k2_pay41 x (k2_pay39 w1) (k2_pay40 b1) w2 b2 w3 b3)
    = disc (toMat x) (toMat w1) (toMat b1) (toMat w2) (toMat b2) (toMat w3) (toMat b3) := by
  funext i j
  obtain rfl := Subsingleton.elim 0 j
  pointwise [k2_pay41, k2_pay39, k2_pay40, toMat, disc, layer, leaky, mm, negSlope]

theorem k2_pay45_mat : toMat (k2_pay45 x (k2_pay42 w1) (k2_pay43 b1) (k2_pay44 w2) b2 w3 b3)
    = disc (toMat x) (toMat w1) (toMat b1) (toMat w2) (toMat b2) (toMat w3) (toMat b3) := by
  funext i j
  obtain rfl := Subsingleton.elim 0 j
  pointwise [k2_pay45, k2_pay42, k2_pay43, k2_pay44, toMat, disc, layer, leaky, mm, negSlope]

end Disc

/-! ## What region 2 hands on -/

theorem k2_pay46_mat (v : Vec Ideal S256x4096 .f32) : toMat (k2_pay46 v) = toMat v := by
  funext i j; pointwise [k2_pay46, toMat]
theorem k2_pay47_mat (v : Vec Ideal S256x4096 .f32) : toMat (k2_pay47 v) = toMat v := by
  funext i j; pointwise [k2_pay47, toMat]
theorem k2_pay48_mat (v w : FVec Ideal S256x64 .f32) : toMat (k2_pay48 v w) = beside (toMat w) (toMat v) := by
  funext i j; pointwise [k2_pay48, toMat, beside]
theorem k2_pay49_mat (v w : FVec Ideal S256x64 .f32) : toMat (k2_pay49 v w) = beside (toMat w) (toMat v) := by
  funext i j; pointwise [k2_pay49, toMat, beside]

end Cert.KernelIdeal.Pay

end
-- ==== Proof.Array0.lean ====
/-
  What the two results of region 0 hold after the launch: each decoder times its encoder.
-/
module
public import proofs.«01_k».proof.Proof.Pay
public import proofs.«01_k».proof.Proof.Gen.KernelIdeal.Frame.Region0
public import Idealize.ShloMosaic.Lib.Pipeline.ValueKit
@[expose] public section
set_option maxRecDepth 16384
noncomputable section
namespace Cert.KernelIdeal.Arrays
open Idealize.ShloMosaic Idealize.ShloMosaic.TcCoe Cert.Mat Cert.KernelIdeal.Gen Cert.KernelIdeal.Pay
variable (V : (c : Dev nD) → (b : Ref sig .tc) → Buf (Elt Ideal) ((c : Thread nD τ).loc b))

/-- Which block each window is at, at each point of the grid. -/
theorem at0 : ∀ t : Fin cfg0.N, win0_0.index t = ![0, 0] ∧ win0_1.index t = ![0, 0] ∧ win0_2.index t = ![0, 0] ∧ win0_3.index t = ![0, 0] ∧
    win0_4.index t = ![0, 0] ∧ win0_5.index t = ![0, 0] :=
  (by decide +kernel : ∀ t : Fin grid0.N, _)

variable (c : Dev nD) (t : Fin cfg0.N)

/-- What each input window's block holds: a block of rows of its array, or the whole array. -/
theorem blks0 : iblk0 V c 0 t = V c main_arg7 ∧ iblk0 V c 1 t = V c main_arg6 ∧ iblk0 V c 2 t = V c main_arg9 ∧
    iblk0 V c 3 t = V c main_arg8 := by
  obtain ⟨e0, e1, e2, e3, e4, e5⟩ := at0 t
  refine ⟨funext fun y => ?_, funext fun y => ?_, funext fun y => ?_, funext fun y => ?_⟩ <;>
    (blk_simp [iblk0]; congr 1; blk_ext [e0, e1, e2, e3])

/-- The decoder times the encoder, `m1`. -/
theorem m1 : (dat0 V c).arrAt 4 cfg0.N = ofMat (mm (toMat (V c main_arg7)) (toMat (V c main_arg6))) := by
  refine (dat0 V c).arrAt_eq_of_covers 4 _ (by decide +kernel) fun t hf y => ?_
  obtain ⟨-, -, -, -, e4, -⟩ := at0 t
  obtain ⟨b0, b1, b2, b3⟩ := blks0 V c t
  blk_simp
  rw [after0_4]
  frame_out
  refine eq_ofMat _ _ _ y ?_ (by blk_simp [e4]) (by blk_simp [e4])
  rw [k0_pay1_mat, b0, b1]

/-- The decoder times the encoder, `m2`. -/
theorem m2 : (dat0 V c).arrAt 5 cfg0.N = ofMat (mm (toMat (V c main_arg9)) (toMat (V c main_arg8))) := by
  refine (dat0 V c).arrAt_eq_of_covers 5 _ (by decide +kernel) fun t hf y => ?_
  obtain ⟨-, -, -, -, -, e5⟩ := at0 t
  obtain ⟨b0, b1, b2, b3⟩ := blks0 V c t
  blk_simp
  rw [after0_5]
  frame_out
  refine eq_ofMat _ _ _ y ?_ (by blk_simp [e5]) (by blk_simp [e5])
  rw [k0_pay2_mat, b2, b3]

end Cert.KernelIdeal.Arrays
end
-- ==== Proof.Array1.lean ====
/-
  What the two results of region 1 hold after the launch: the features times the encoder weights, put together from the
  blocks of 256 rows.
-/
module
public import proofs.«01_k».proof.Proof.Pay
public import proofs.«01_k».proof.Proof.Gen.KernelIdeal.Frame.Region1
public import Idealize.ShloMosaic.Lib.Pipeline.ValueKit
@[expose] public section
set_option maxRecDepth 16384
noncomputable section
namespace Cert.KernelIdeal.Arrays
open Idealize.ShloMosaic Idealize.ShloMosaic.TcCoe Cert.Mat Cert.KernelIdeal.Gen Cert.KernelIdeal.Pay
variable (V : (c : Dev nD) → (b : Ref sig .tc) → Buf (Elt Ideal) ((c : Thread nD τ).loc b))

/-- Which block each window is at, at each point of the grid. -/
theorem at1 : ∀ t : Fin cfg1.N, t.val < 16 ∧ win1_0.index t = ![t.val, 0] ∧ win1_1.index t = ![t.val, 0] ∧ win1_2.index t = ![0, 0] ∧
    win1_3.index t = ![0, 0] ∧ win1_4.index t = ![t.val, 0] ∧ win1_5.index t = ![t.val, 0] :=
  (by decide +kernel : ∀ t : Fin grid1.N, _)

variable (c : Dev nD) (t : Fin cfg1.N)

/-- What each input window's block holds: a block of rows of its array, or the whole array. -/
theorem blks1 : toMat (iblk1 V c 0 t) = rows t.val (at1 t).1 (toMat (V c main_arg0)) ∧
    toMat (iblk1 V c 1 t) = rows t.val (at1 t).1 (toMat (V c main_arg1)) ∧ iblk1 V c 2 t = V c main_arg6 ∧
    iblk1 V c 3 t = V c main_arg8 := by
  obtain ⟨ht, e0, e1, e2, e3, e4, e5⟩ := at1 t
  refine ⟨toMat_rows _ _ _ _ fun i j => ?_, toMat_rows _ _ _ _ fun i j => ?_, funext fun y => ?_, funext fun y => ?_⟩ <;>
    (blk_simp [iblk1]; congr 1; blk_ext [e0, e1, e2, e3])

/-- The first features times the first encoder weights. -/
theorem t1 : (dat1 V c).arrAt 4 cfg1.N = ofMat (mm (toMat (V c main_arg0)) (toMat (V c main_arg6))) := by
  refine (dat1 V c).arrAt_eq_of_covers 4 _ (by decide +kernel) fun t hf y => ?_
  obtain ⟨ht, -, -, -, -, e4, -⟩ := at1 t
  obtain ⟨b0, b1, b2, b3⟩ := blks1 V c t
  blk_simp
  rw [after1_4]
  frame_out
  refine eq_ofMat_rows _ _ t.val ht _ y ?_ (by blk_simp [e4]) (by blk_simp [e4])
  rw [k1_pay1_mat, b0, b2]
  rfl

/-- The second features times the second encoder weights. -/
theorem t2 : (dat1 V c).arrAt 5 cfg1.N = ofMat (mm (toMat (V c main_arg1)) (toMat (V c main_arg8))) := by
  refine (dat1 V c).arrAt_eq_of_covers 5 _ (by decide +kernel) fun t hf y => ?_
  obtain ⟨ht, -, -, -, -, -, e5⟩ := at1 t
  obtain ⟨b0, b1, b2, b3⟩ := blks1 V c t
  blk_simp
  rw [after1_5]
  frame_out
  refine eq_ofMat_rows _ _ t.val ht _ y ?_ (by blk_simp [e5]) (by blk_simp [e5])
  rw [k1_pay2_mat, b1, b3]
  rfl

end Cert.KernelIdeal.Arrays
end
-- ==== Proof.Block2.lean ====
/-
  What one block of region 2 computes: the two embeddings, their common attention, the attention weights and the two
  discriminators, each over the eighteen blocks the body loads.
-/
module
public import proofs.«01_k».proof.Proof.Pay
public import proofs.«01_k».proof.Proof.KernelIdeal.Region2
public import Idealize.ShloMosaic.Lib.Pipeline.ValueKit
@[expose] public section
set_option maxRecDepth 16384
set_option maxHeartbeats 1000000
noncomputable section
namespace Cert.KernelIdeal.Pay
open Idealize.ShloMosaic Cert.Mat Cert.KernelIdeal.Gen Cert.KernelIdeal.Whole

variable (x0 x1 x2 x3 : Vec Ideal S256x4096 .f32) (x4 x5 : Vec Ideal S4096x64 .f32) (x6 : Vec Ideal S64x64 .f32) (x7 : Vec Ideal S64x1 .f32) (x8 : Vec Ideal S64x64 .f32) (x9 : Vec Ideal S64x1 .f32)
  (x10 : Vec Ideal S64x64 .f32) (x11 : Vec Ideal S64x1 .f32) (x12 : Vec Ideal S64x50 .f32) (x13 : Vec Ideal S1x50 .f32) (x14 : Vec Ideal S50x100 .f32)
  (x15 : Vec Ideal S1x100 .f32) (x16 : Vec Ideal S100x1 .f32) (x17 : Vec Ideal S1x1 .f32)

/-- The block of the first embedding. -/
theorem block_E1 : toMat (k2_pay57 x0 x1 x2 x3 x4 x5 x6 x7 x8 x9 x10 x11 x12 x13 x14 x15 x16 x17)
    = enc wK (toMat x0) (toMat x1) (toMat x4) (toMat x6) (toMat x7) := by
  unfold k2_pay57 k2_pay50 k2_pay51 k2_pay54 k2_pay55 k2_pay56
  simp (disch := decide) only [View.ld_unit_lit]
  rw [k2_pay15_mat, k2_pay3_mat, k2_pay4_mat]
  rfl

/-- The block of the first embedding's attention weights. -/
theorem block_al1 : toMat (k2_pay16 (k2_pay54 x0 x1 x2 x3 x4 x5 x6 x7 x8 x9 x10 x11 x12 x13 x14 x15 x16 x17)
      (k2_pay55 x0 x1 x2 x3 x4 x5 x6 x7 x8 x9 x10 x11 x12 x13 x14 x15 x16 x17)
      (k2_pay56 x0 x1 x2 x3 x4 x5 x6 x7 x8 x9 x10 x11 x12 x13 x14 x15 x16 x17))
    = encAlphas wK (toMat x0) (toMat x1) (toMat x4) (toMat x6) (toMat x7) := by
  unfold k2_pay54 k2_pay55 k2_pay56
  simp (disch := decide) only [View.ld_unit_lit]
  rw [k2_pay16_mat, k2_pay3_mat, k2_pay4_mat]
  rfl

/-- The block of the second embedding. -/
theorem block_E2 : toMat (k2_pay58 x0 x1 x2 x3 x4 x5 x6 x7 x8 x9 x10 x11 x12 x13 x14 x15 x16 x17)
    = enc wK (toMat x2) (toMat x3) (toMat x5) (toMat x8) (toMat x9) := by
  unfold k2_pay58 k2_pay52 k2_pay53
  simp (disch := decide) only [View.ld_unit_lit]
  rw [k2_pay25_mat, k2_pay5_mat, k2_pay6_mat]
  rfl

/-- The block of the second embedding's attention weights. -/
theorem block_al2 : toMat (k2_pay26 (k2_pay52 x0 x1 x2 x3 x4 x5 x6 x7 x8 x9 x10 x11 x12 x13 x14 x15 x16 x17)
      (k2_pay53 x0 x1 x2 x3 x4 x5 x6 x7 x8 x9 x10 x11 x12 x13 x14 x15 x16 x17) x8 x9)
    = encAlphas wK (toMat x2) (toMat x3) (toMat x5) (toMat x8) (toMat x9) := by
  unfold k2_pay52 k2_pay53
  simp (disch := decide) only [View.ld_unit_lit]
  rw [k2_pay26_mat, k2_pay5_mat, k2_pay6_mat]
  rfl

/-- The block of the common embedding. -/
theorem block_C : toMat (k2_pay37 (k2_pay57 x0 x1 x2 x3 x4 x5 x6 x7 x8 x9 x10 x11 x12 x13 x14 x15 x16 x17)
      (k2_pay58 x0 x1 x2 x3 x4 x5 x6 x7 x8 x9 x10 x11 x12 x13 x14 x15 x16 x17) x10 x11
      (k2_pay59 x0 x1 x2 x3 x4 x5 x6 x7 x8 x9 x10 x11 x12 x13 x14 x15 x16 x17)
      (k2_pay60 x0 x1 x2 x3 x4 x5 x6 x7 x8 x9 x10 x11 x12 x13 x14 x15 x16 x17))
    = att wK (toMat (k2_pay57 x0 x1 x2 x3 x4 x5 x6 x7 x8 x9 x10 x11 x12 x13 x14 x15 x16 x17))
      (toMat (k2_pay58 x0 x1 x2 x3 x4 x5 x6 x7 x8 x9 x10 x11 x12 x13 x14 x15 x16 x17)) (toMat x10) (toMat x11) := by
  unfold k2_pay59 k2_pay60 k2_pay57
  simp (disch := decide) only [View.ld_unit_lit]
  rw [k2_pay37_mat]

/-- The block of the common embedding, the other name it is stored under. -/
theorem block_C' : toMat (k2_pay61 x0 x1 x2 x3 x4 x5 x6 x7 x8 x9 x10 x11 x12 x13 x14 x15 x16 x17)
    = att wK (toMat (k2_pay57 x0 x1 x2 x3 x4 x5 x6 x7 x8 x9 x10 x11 x12 x13 x14 x15 x16 x17))
      (toMat (k2_pay58 x0 x1 x2 x3 x4 x5 x6 x7 x8 x9 x10 x11 x12 x13 x14 x15 x16 x17)) (toMat x10) (toMat x11) := by
  unfold k2_pay61
  simp (disch := decide) only [View.ld_unit_lit]
  rw [block_C]

/-- The block of the common embedding's attention weights. -/
theorem block_al12 : toMat (k2_pay38 (k2_pay58 x0 x1 x2 x3 x4 x5 x6 x7 x8 x9 x10 x11 x12 x13 x14 x15 x16 x17) x10 x11
      (k2_pay59 x0 x1 x2 x3 x4 x5 x6 x7 x8 x9 x10 x11 x12 x13 x14 x15 x16 x17)
      (k2_pay60 x0 x1 x2 x3 x4 x5 x6 x7 x8 x9 x10 x11 x12 x13 x14 x15 x16 x17))
    = alphas wK (toMat (k2_pay57 x0 x1 x2 x3 x4 x5 x6 x7 x8 x9 x10 x11 x12 x13 x14 x15 x16 x17))
      (toMat (k2_pay58 x0 x1 x2 x3 x4 x5 x6 x7 x8 x9 x10 x11 x12 x13 x14 x15 x16 x17)) (toMat x10) (toMat x11) := by
  unfold k2_pay59 k2_pay60 k2_pay57
  simp (disch := decide) only [View.ld_unit_lit]
  rw [k2_pay38_mat]

end Cert.KernelIdeal.Pay
end
-- ==== Proof.Array2.lean ====
/-
  What the twelve results of region 2 hold after the launch: the embeddings, their attention weights, the discriminators,
  the adjacency copies and the embeddings laid side by side; put together from the blocks of 256 rows.
-/
module
public import proofs.«01_k».proof.Proof.Pay
public import proofs.«01_k».proof.Proof.Block2
public import Idealize.ShloMosaic.Lib.Pipeline.ValueKit
@[expose] public section
set_option maxRecDepth 16384
set_option maxHeartbeats 4000000
noncomputable section
namespace Cert.KernelIdeal.Arrays
open Idealize.ShloMosaic Idealize.ShloMosaic.TcCoe Cert.Mat Cert.KernelIdeal.Gen Cert.KernelIdeal.Pay Cert.KernelIdeal.Whole
variable (V : (c : Dev nD) → (b : Ref sig .tc) → Buf (Elt Ideal) ((c : Thread nD τ).loc b))

set_option synthInstance.maxHeartbeats 2000000 in
set_option synthInstance.maxSize 4096 in
/-- Which block each window is at, at each point of the grid. -/
theorem at2 : ∀ t : Fin cfg2.N, t.val < 16 ∧ win2_0.index t = ![t.val, 0] ∧ win2_1.index t = ![t.val, 0] ∧ win2_2.index t = ![t.val, 0] ∧
    win2_3.index t = ![t.val, 0] ∧ win2_4.index t = ![0, 0] ∧ win2_5.index t = ![0, 0] ∧
    win2_6.index t = ![0, 0] ∧ win2_7.index t = ![0, 0] ∧ win2_8.index t = ![0, 0] ∧ win2_9.index t = ![0, 0] ∧
    win2_10.index t = ![0, 0] ∧ win2_11.index t = ![0, 0] ∧ win2_12.index t = ![0, 0] ∧
    win2_13.index t = ![0, 0] ∧ win2_14.index t = ![0, 0] ∧ win2_15.index t = ![0, 0] ∧
    win2_16.index t = ![0, 0] ∧ win2_17.index t = ![0, 0] ∧ win2_18.index t = ![t.val, 0] ∧
    win2_19.index t = ![t.val, 0] ∧ win2_20.index t = ![t.val, 0] ∧ win2_21.index t = ![t.val, 0] ∧
    win2_22.index t = ![t.val, 0] ∧ win2_23.index t = ![t.val, 0] ∧ win2_24.index t = ![t.val, 0] ∧
    win2_25.index t = ![t.val, 0] ∧ win2_26.index t = ![t.val, 0] ∧ win2_27.index t = ![t.val, 0] ∧
    win2_28.index t = ![t.val, 0] ∧ win2_29.index t = ![t.val, 0] :=
  (by decide +kernel : ∀ t : Fin grid2.N, _)

variable (c : Dev nD) (t : Fin cfg2.N)

/-- What each input window's block holds: a block of rows of its array, or the whole array. -/
theorem blks2 : toMat (iblk2 V c 0 t) = rows t.val (at2 t).1 (toMat (V c main_arg2)) ∧
    toMat (iblk2 V c 1 t) = rows t.val (at2 t).1 (toMat (V c main_arg3)) ∧
    toMat (iblk2 V c 2 t) = rows t.val (at2 t).1 (toMat (V c main_arg4)) ∧
    toMat (iblk2 V c 3 t) = rows t.val (at2 t).1 (toMat (V c main_arg5)) ∧ iblk2 V c 4 t = V c main_v1_0 ∧
    iblk2 V c 5 t = V c main_v1_1 ∧ iblk2 V c 6 t = V c main_arg10 ∧ iblk2 V c 7 t = V c main_arg11 ∧
    iblk2 V c 8 t = V c main_arg12 ∧ iblk2 V c 9 t = V c main_arg13 ∧ iblk2 V c 10 t = V c main_arg14 ∧
    iblk2 V c 11 t = V c main_arg15 ∧ iblk2 V c 12 t = V c main_v2 ∧ iblk2 V c 13 t = V c main_v3 ∧
    iblk2 V c 14 t = V c main_v4 ∧ iblk2 V c 15 t = V c main_v5 ∧ iblk2 V c 16 t = V c main_v6 ∧
    iblk2 V c 17 t = V c main_v7 := by
  obtain ⟨ht, e0, e1, e2, e3, e4, e5, e6, e7, e8, e9, e10, e11, e12, e13, e14, e15, e16, e17, e18, e19, e20, e21, e22, e23,
    e24, e25, e26, e27, e28, e29⟩ := at2 t
  refine ⟨toMat_rows _ _ _ _ fun i j => ?_, toMat_rows _ _ _ _ fun i j => ?_, toMat_rows _ _ _ _ fun i j => ?_,
    toMat_rows _ _ _ _ fun i j => ?_, funext fun y => ?_, funext fun y => ?_, funext fun y => ?_,
    funext fun y => ?_, funext fun y => ?_, funext fun y => ?_, funext fun y => ?_, funext fun y => ?_,
    funext fun y => ?_, funext fun y => ?_, funext fun y => ?_, funext fun y => ?_, funext fun y => ?_,
    funext fun y => ?_⟩ <;>
    (blk_simp [iblk2]; congr 1; blk_ext [e0, e1, e2, e3, e4, e5, e6, e7, e8, e9, e10, e11, e12, e13, e14, e15, e16, e17])

/-- The first embedding. -/
def E1 : Mat 4096 64 := enc wK (toMat (V c main_arg2)) (toMat (V c main_arg3)) (toMat (V c main_v1_0)) (toMat (V c main_arg10)) (toMat (V c main_arg11))

/-- The second embedding. -/
def E2 : Mat 4096 64 := enc wK (toMat (V c main_arg4)) (toMat (V c main_arg5)) (toMat (V c main_v1_1)) (toMat (V c main_arg12)) (toMat (V c main_arg13))

/-- The common embedding. -/
def C : Mat 4096 64 := att wK (E1 V c) (E2 V c) (toMat (V c main_arg14)) (toMat (V c main_arg15))

/-- The first embedding. -/
theorem res_E1 : (dat2 V c).arrAt 18 cfg2.N = ofMat (E1 V c) := by
  refine (dat2 V c).arrAt_eq_of_covers 18 _ (by decide +kernel) fun t hf y => ?_
  obtain ⟨ht, -, -, -, -, -, -, -, -, -, -, -, -, -, -, -, -, -, -, e18, -, -, -, -, -, -, -, -, -, -, -⟩ := at2 t
  obtain ⟨b0, b1, b2, b3, b4, b5, b6, b7, b8, b9, b10, b11, b12, b13, b14, b15, b16, b17⟩ := blks2 V c t
  blk_simp
  rw [after2_18]
  frame_out
  refine eq_ofMat_rows _ _ t.val ht _ y ?_ (by blk_simp [e18]) (by blk_simp [e18])
  rw [block_E1, b0, b1, b4, b6, b7]
  rfl

/-- The second embedding. -/
theorem res_E2 : (dat2 V c).arrAt 19 cfg2.N = ofMat (E2 V c) := by
  refine (dat2 V c).arrAt_eq_of_covers 19 _ (by decide +kernel) fun t hf y => ?_
  obtain ⟨ht, -, -, -, -, -, -, -, -, -, -, -, -, -, -, -, -, -, -, -, e19, -, -, -, -, -, -, -, -, -, -⟩ := at2 t
  obtain ⟨b0, b1, b2, b3, b4, b5, b6, b7, b8, b9, b10, b11, b12, b13, b14, b15, b16, b17⟩ := blks2 V c t
  blk_simp
  rw [after2_19]
  frame_out
  refine eq_ofMat_rows _ _ t.val ht _ y ?_ (by blk_simp [e19]) (by blk_simp [e19])
  rw [block_E2, b2, b3, b5, b8, b9]
  rfl

/-- The common embedding. -/
theorem res_C : (dat2 V c).arrAt 20 cfg2.N = ofMat (C V c) := by
  refine (dat2 V c).arrAt_eq_of_covers 20 _ (by decide +kernel) fun t hf y => ?_
  obtain ⟨ht, -, -, -, -, -, -, -, -, -, -, -, -, -, -, -, -, -, -, -, -, e20, -, -, -, -, -, -, -, -, -⟩ := at2 t
  obtain ⟨b0, b1, b2, b3, b4, b5, b6, b7, b8, b9, b10, b11, b12, b13, b14, b15, b16, b17⟩ := blks2 V c t
  blk_simp
  rw [after2_20]
  frame_out
  refine eq_ofMat_rows _ _ t.val ht _ y ?_ (by blk_simp [e20]) (by blk_simp [e20])
  rw [block_C, block_E1, block_E2, b0, b1, b4, b6, b7, b2, b3, b5, b8, b9, b10, b11]
  rfl

/-- The attention weights of the first embedding. -/
theorem res_al1 : (dat2 V c).arrAt 21 cfg2.N = ofMat (encAlphas wK (toMat (V c main_arg2)) (toMat (V c main_arg3)) (toMat (V c main_v1_0)) (toMat (V c main_arg10)) (toMat (V c main_arg11))) := by
  refine (dat2 V c).arrAt_eq_of_covers 21 _ (by decide +kernel) fun t hf y => ?_
  obtain ⟨ht, -, -, -, -, -, -, -, -, -, -, -, -, -, -, -, -, -, -, -, -, -, e21, -, -, -, -, -, -, -, -⟩ := at2 t
  obtain ⟨b0, b1, b2, b3, b4, b5, b6, b7, b8, b9, b10, b11, b12, b13, b14, b15, b16, b17⟩ := blks2 V c t
  blk_simp
  rw [after2_21]
  frame_out
  refine eq_ofMat_rows _ _ t.val ht _ y ?_ (by blk_simp [e21]) (by blk_simp [e21])
  rw [block_al1, b0, b1, b4, b6, b7]
  rfl

/-- The attention weights of the second embedding. -/
theorem res_al2 : (dat2 V c).arrAt 22 cfg2.N = ofMat (encAlphas wK (toMat (V c main_arg4)) (toMat (V c main_arg5)) (toMat (V c main_v1_1)) (toMat (V c main_arg12)) (toMat (V c main_arg13))) := by
  refine (dat2 V c).arrAt_eq_of_covers 22 _ (by decide +kernel) fun t hf y => ?_
  obtain ⟨ht, -, -, -, -, -, -, -, -, -, -, -, -, -, -, -, -, -, -, -, -, -, -, e22, -, -, -, -, -, -, -⟩ := at2 t
  obtain ⟨b0, b1, b2, b3, b4, b5, b6, b7, b8, b9, b10, b11, b12, b13, b14, b15, b16, b17⟩ := blks2 V c t
  blk_simp
  rw [after2_22]
  frame_out
  refine eq_ofMat_rows _ _ t.val ht _ y ?_ (by blk_simp [e22]) (by blk_simp [e22])
  rw [block_al2, b2, b3, b5, b8, b9]
  rfl

/-- The attention weights of the common embedding. -/
theorem res_al12 : (dat2 V c).arrAt 23 cfg2.N = ofMat (alphas wK (E1 V c) (E2 V c) (toMat (V c main_arg14)) (toMat (V c main_arg15))) := by
  refine (dat2 V c).arrAt_eq_of_covers 23 _ (by decide +kernel) fun t hf y => ?_
  obtain ⟨ht, -, -, -, -, -, -, -, -, -, -, -, -, -, -, -, -, -, -, -, -, -, -, -, e23, -, -, -, -, -, -⟩ := at2 t
  obtain ⟨b0, b1, b2, b3, b4, b5, b6, b7, b8, b9, b10, b11, b12, b13, b14, b15, b16, b17⟩ := blks2 V c t
  blk_simp
  rw [after2_23]
  frame_out
  refine eq_ofMat_rows _ _ t.val ht _ y ?_ (by blk_simp [e23]) (by blk_simp [e23])
  rw [block_al12, block_E1, block_E2, b0, b1, b4, b6, b7, b2, b3, b5, b8, b9, b10, b11]
  rfl

/-- The discriminator of the first embedding. -/
theorem res_s1 : (dat2 V c).arrAt 24 cfg2.N = ofMat (disc (E1 V c) (toMat (V c main_v2)) (toMat (V c main_v3)) (toMat (V c main_v4)) (toMat (V c main_v5)) (toMat (V c main_v6)) (toMat (V c main_v7))) := by
  refine (dat2 V c).arrAt_eq_of_covers 24 _ (by decide +kernel) fun t hf y => ?_
  obtain ⟨ht, -, -, -, -, -, -, -, -, -, -, -, -, -, -, -, -, -, -, -, -, -, -, -, -, e24, -, -, -, -, -⟩ := at2 t
  obtain ⟨b0, b1, b2, b3, b4, b5, b6, b7, b8, b9, b10, b11, b12, b13, b14, b15, b16, b17⟩ := blks2 V c t
  blk_simp
  rw [after2_24]
  frame_out
  refine eq_ofMat_rows _ _ t.val ht _ y ?_ (by blk_simp [e24]) (by blk_simp [e24])
  rw [k2_pay41_mat, block_E1, b0, b1, b4, b6, b7, b12, b13, b14, b15, b16, b17]
  rfl

/-- The discriminator of the second embedding. -/
theorem res_s2 : (dat2 V c).arrAt 25 cfg2.N = ofMat (disc (E2 V c) (toMat (V c main_v2)) (toMat (V c main_v3)) (toMat (V c main_v4)) (toMat (V c main_v5)) (toMat (V c main_v6)) (toMat (V c main_v7))) := by
  refine (dat2 V c).arrAt_eq_of_covers 25 _ (by decide +kernel) fun t hf y => ?_
  obtain ⟨ht, -, -, -, -, -, -, -, -, -, -, -, -, -, -, -, -, -, -, -, -, -, -, -, -, -, e25, -, -, -, -⟩ := at2 t
  obtain ⟨b0, b1, b2, b3, b4, b5, b6, b7, b8, b9, b10, b11, b12, b13, b14, b15, b16, b17⟩ := blks2 V c t
  blk_simp
  rw [after2_25]
  frame_out
  refine eq_ofMat_rows _ _ t.val ht _ y ?_ (by blk_simp [e25]) (by blk_simp [e25])
  rw [k2_pay45_mat, block_E2, b2, b3, b5, b8, b9, b12, b13, b14, b15, b16, b17]
  rfl

/-- The copy of the first adjacency. -/
theorem res_a11 : (dat2 V c).arrAt 26 cfg2.N = ofMat (toMat (V c main_arg2)) := by
  refine (dat2 V c).arrAt_eq_of_covers 26 _ (by decide +kernel) fun t hf y => ?_
  obtain ⟨ht, -, -, -, -, -, -, -, -, -, -, -, -, -, -, -, -, -, -, -, -, -, -, -, -, -, -, e26, -, -, -⟩ := at2 t
  obtain ⟨b0, b1, b2, b3, b4, b5, b6, b7, b8, b9, b10, b11, b12, b13, b14, b15, b16, b17⟩ := blks2 V c t
  blk_simp
  rw [after2_26]
  frame_out
  refine eq_ofMat_rows _ _ t.val ht _ y ?_ (by blk_simp [e26]) (by blk_simp [e26])
  rw [k2_pay46_mat, b0]

/-- The copy of the second adjacency. -/
theorem res_a21 : (dat2 V c).arrAt 27 cfg2.N = ofMat (toMat (V c main_arg4)) := by
  refine (dat2 V c).arrAt_eq_of_covers 27 _ (by decide +kernel) fun t hf y => ?_
  obtain ⟨ht, -, -, -, -, -, -, -, -, -, -, -, -, -, -, -, -, -, -, -, -, -, -, -, -, -, -, -, e27, -, -⟩ := at2 t
  obtain ⟨b0, b1, b2, b3, b4, b5, b6, b7, b8, b9, b10, b11, b12, b13, b14, b15, b16, b17⟩ := blks2 V c t
  blk_simp
  rw [after2_27]
  frame_out
  refine eq_ofMat_rows _ _ t.val ht _ y ?_ (by blk_simp [e27]) (by blk_simp [e27])
  rw [k2_pay47_mat, b2]

/-- The common and the first embedding side by side. -/
theorem res_ce1 : (dat2 V c).arrAt 28 cfg2.N = ofMat (beside (C V c) (E1 V c)) := by
  refine (dat2 V c).arrAt_eq_of_covers 28 _ (by decide +kernel) fun t hf y => ?_
  obtain ⟨ht, -, -, -, -, -, -, -, -, -, -, -, -, -, -, -, -, -, -, -, -, -, -, -, -, -, -, -, -, e28, -⟩ := at2 t
  obtain ⟨b0, b1, b2, b3, b4, b5, b6, b7, b8, b9, b10, b11, b12, b13, b14, b15, b16, b17⟩ := blks2 V c t
  blk_simp
  rw [after2_28]
  frame_out
  refine eq_ofMat_rows _ _ t.val ht _ y ?_ (by blk_simp [e28]) (by blk_simp [e28])
  rw [k2_pay48_mat, block_C', block_E1, block_E2, b0, b1, b4, b6, b7, b2, b3, b5, b8, b9, b10, b11]
  rfl

/-- The common and the second embedding side by side. -/
theorem res_ce2 : (dat2 V c).arrAt 29 cfg2.N = ofMat (beside (C V c) (E2 V c)) := by
  refine (dat2 V c).arrAt_eq_of_covers 29 _ (by decide +kernel) fun t hf y => ?_
  obtain ⟨ht, -, -, -, -, -, -, -, -, -, -, -, -, -, -, -, -, -, -, -, -, -, -, -, -, -, -, -, -, -, e29⟩ := at2 t
  obtain ⟨b0, b1, b2, b3, b4, b5, b6, b7, b8, b9, b10, b11, b12, b13, b14, b15, b16, b17⟩ := blks2 V c t
  blk_simp
  rw [after2_29]
  frame_out
  refine eq_ofMat_rows _ _ t.val ht _ y ?_ (by blk_simp [e29]) (by blk_simp [e29])
  rw [k2_pay49_mat, block_C', block_E1, block_E2, b0, b1, b4, b6, b7, b2, b3, b5, b8, b9, b10, b11]
  rfl

end Cert.KernelIdeal.Arrays
end
-- ==== Proof.Array3.lean ====
/-
  What the four results of region 3 hold after the launch: each adjacency copy times the matrices laid side by side, one
  half of the columns taken, times a matrix of weights; put together from the blocks of 256 rows.
-/
module
public import proofs.«01_k».proof.Proof.Pay
public import proofs.«01_k».proof.Proof.Gen.KernelIdeal.Frame.Region3
public import Idealize.ShloMosaic.Lib.Pipeline.ValueKit
@[expose] public section
set_option maxRecDepth 16384
set_option maxHeartbeats 4000000
noncomputable section
namespace Cert.KernelIdeal.Arrays
open Idealize.ShloMosaic Idealize.ShloMosaic.TcCoe Cert.Mat Cert.KernelIdeal.Gen Cert.KernelIdeal.Pay
variable (V : (c : Dev nD) → (b : Ref sig .tc) → Buf (Elt Ideal) ((c : Thread nD τ).loc b))

/-- Which block each window is at, at each point of the grid. -/
theorem at3 : ∀ t : Fin cfg3.N, t.val < 16 ∧ win3_0.index t = ![t.val, 0] ∧ win3_1.index t = ![t.val, 0] ∧ win3_2.index t = ![0, 0] ∧
    win3_3.index t = ![0, 0] ∧ win3_4.index t = ![0, 0] ∧ win3_5.index t = ![0, 0] ∧ win3_6.index t = ![0, 0] ∧
    win3_7.index t = ![0, 0] ∧ win3_8.index t = ![t.val, 0] ∧ win3_9.index t = ![t.val, 0] ∧
    win3_10.index t = ![t.val, 0] ∧ win3_11.index t = ![t.val, 0] :=
  (by decide +kernel : ∀ t : Fin grid3.N, _)

variable (c : Dev nD) (t : Fin cfg3.N)

/-- What each input window's block holds: a block of rows of its array, or the whole array. -/
theorem blks3 : toMat (iblk3 V c 0 t) = rows t.val (at3 t).1 (toMat (V c main_v8_8)) ∧
    toMat (iblk3 V c 1 t) = rows t.val (at3 t).1 (toMat (V c main_v8_9)) ∧ iblk3 V c 2 t = V c main_v8_10 ∧
    iblk3 V c 3 t = V c main_v8_11 ∧ iblk3 V c 4 t = V c main_arg7 ∧ iblk3 V c 5 t = V c main_arg9 ∧
    iblk3 V c 6 t = V c main_v0_0 ∧ iblk3 V c 7 t = V c main_v0_1 := by
  obtain ⟨ht, e0, e1, e2, e3, e4, e5, e6, e7, e8, e9, e10, e11⟩ := at3 t
  refine ⟨toMat_rows _ _ _ _ fun i j => ?_, toMat_rows _ _ _ _ fun i j => ?_, funext fun y => ?_, funext fun y => ?_,
    funext fun y => ?_, funext fun y => ?_, funext fun y => ?_, funext fun y => ?_⟩ <;>
    (blk_simp [iblk3]; congr 1; blk_ext [e0, e1, e2, e3, e4, e5, e6, e7])

/-- What `r1` holds. -/
theorem r1 : (dat3 V c).arrAt 8 cfg3.N = ofMat (mm (left (mm (toMat (V c main_v8_8)) (toMat (V c main_v8_11)))) (toMat (V c main_arg7))) := by
  refine (dat3 V c).arrAt_eq_of_covers 8 _ (by decide +kernel) fun t hf y => ?_
  obtain ⟨ht, -, -, -, -, -, -, -, -, e8, -, -, -⟩ := at3 t
  obtain ⟨b0, b1, b2, b3, b4, b5, b6, b7⟩ := blks3 V c t
  blk_simp
  rw [after3_8]
  frame_out
  refine eq_ofMat_rows _ _ t.val ht _ y ?_ (by blk_simp [e8]) (by blk_simp [e8])
  rw [k3_pay3_mat, b0, b3, b4]
  rfl

/-- What `r2` holds. -/
theorem r2 : (dat3 V c).arrAt 9 cfg3.N = ofMat (mm (left (mm (toMat (V c main_v8_9)) (toMat (V c main_v8_10)))) (toMat (V c main_arg9))) := by
  refine (dat3 V c).arrAt_eq_of_covers 9 _ (by decide +kernel) fun t hf y => ?_
  obtain ⟨ht, -, -, -, -, -, -, -, -, -, e9, -, -⟩ := at3 t
  obtain ⟨b0, b1, b2, b3, b4, b5, b6, b7⟩ := blks3 V c t
  blk_simp
  rw [after3_9]
  frame_out
  refine eq_ofMat_rows _ _ t.val ht _ y ?_ (by blk_simp [e9]) (by blk_simp [e9])
  rw [k3_pay4_mat, b1, b2, b5]
  rfl

/-- What `z1` holds. -/
theorem z1 : (dat3 V c).arrAt 10 cfg3.N = ofMat (mm (right (mm (toMat (V c main_v8_9)) (toMat (V c main_v8_10)))) (toMat (V c main_v0_1))) := by
  refine (dat3 V c).arrAt_eq_of_covers 10 _ (by decide +kernel) fun t hf y => ?_
  obtain ⟨ht, -, -, -, -, -, -, -, -, -, -, e10, -⟩ := at3 t
  obtain ⟨b0, b1, b2, b3, b4, b5, b6, b7⟩ := blks3 V c t
  blk_simp
  rw [after3_10]
  frame_out
  refine eq_ofMat_rows _ _ t.val ht _ y ?_ (by blk_simp [e10]) (by blk_simp [e10])
  rw [k3_pay5_mat, b1, b2, b7]
  rfl

/-- What `z2` holds. -/
theorem z2 : (dat3 V c).arrAt 11 cfg3.N = ofMat (mm (right (mm (toMat (V c main_v8_8)) (toMat (V c main_v8_11)))) (toMat (V c main_v0_0))) := by
  refine (dat3 V c).arrAt_eq_of_covers 11 _ (by decide +kernel) fun t hf y => ?_
  obtain ⟨ht, -, -, -, -, -, -, -, -, -, -, -, e11⟩ := at3 t
  obtain ⟨b0, b1, b2, b3, b4, b5, b6, b7⟩ := blks3 V c t
  blk_simp
  rw [after3_11]
  frame_out
  refine eq_ofMat_rows _ _ t.val ht _ y ?_ (by blk_simp [e11]) (by blk_simp [e11])
  rw [k3_pay6_mat, b0, b3, b6]
  rfl

end Cert.KernelIdeal.Arrays
end
-- ==== Proof.Array4.lean ====
/-
  What the two results of region 4 hold after the launch: the products of the whole adjacency copies with the whole
  projected matrices, put together from the blocks of 256 rows.
-/
module
public import proofs.«01_k».proof.Proof.Pay
public import proofs.«01_k».proof.Proof.Gen.KernelIdeal.Frame.Region4
public import Idealize.ShloMosaic.Lib.Pipeline.ValueKit
@[expose] public section
set_option maxRecDepth 16384
noncomputable section
namespace Cert.KernelIdeal.Arrays
open Idealize.ShloMosaic Idealize.ShloMosaic.TcCoe Cert.Mat Cert.KernelIdeal.Gen Cert.KernelIdeal.Pay
variable (V : (c : Dev nD) → (b : Ref sig .tc) → Buf (Elt Ideal) ((c : Thread nD τ).loc b))

/-- Which block each window is at, at each point of the grid. -/
theorem at4 : ∀ t : Fin cfg4.N, t.val < 16 ∧ win4_0.index t = ![t.val, 0] ∧ win4_1.index t = ![t.val, 0] ∧ win4_2.index t = ![0, 0] ∧
    win4_3.index t = ![0, 0] ∧ win4_4.index t = ![t.val, 0] ∧ win4_5.index t = ![t.val, 0] :=
  (by decide +kernel : ∀ t : Fin grid4.N, _)

variable (c : Dev nD) (t : Fin cfg4.N)

/-- What each input window's block holds: a block of rows of its array, or the whole array. -/
theorem blks4 : toMat (iblk4 V c 0 t) = rows t.val (at4 t).1 (toMat (V c main_v8_8)) ∧
    toMat (iblk4 V c 1 t) = rows t.val (at4 t).1 (toMat (V c main_v8_9)) ∧ iblk4 V c 2 t = V c main_v9_2 ∧
    iblk4 V c 3 t = V c main_v9_3 := by
  obtain ⟨ht, e0, e1, e2, e3, e4, e5⟩ := at4 t
  refine ⟨toMat_rows _ _ _ _ fun i j => ?_, toMat_rows _ _ _ _ fun i j => ?_, funext fun y => ?_, funext fun y => ?_⟩ <;>
    (blk_simp [iblk4]; congr 1; blk_ext [e0, e1, e2, e3])

/-- The reconstruction `l1`. -/
theorem l1 : (dat4 V c).arrAt 4 cfg4.N = ofMat (mm (toMat (V c main_v8_9)) (toMat (V c main_v9_2))) := by
  refine (dat4 V c).arrAt_eq_of_covers 4 _ (by decide +kernel) fun t hf y => ?_
  obtain ⟨ht, -, -, -, -, e4, -⟩ := at4 t
  obtain ⟨b0, b1, b2, b3⟩ := blks4 V c t
  blk_simp
  rw [after4_4]
  frame_out
  refine eq_ofMat_rows _ _ t.val ht _ y ?_ (by blk_simp [e4]) (by blk_simp [e4])
  rw [k4_pay1_mat, b1, b2]
  rfl

/-- The reconstruction `l2`. -/
theorem l2 : (dat4 V c).arrAt 5 cfg4.N = ofMat (mm (toMat (V c main_v8_8)) (toMat (V c main_v9_3))) := by
  refine (dat4 V c).arrAt_eq_of_covers 5 _ (by decide +kernel) fun t hf y => ?_
  obtain ⟨ht, -, -, -, -, -, e5⟩ := at4 t
  obtain ⟨b0, b1, b2, b3⟩ := blks4 V c t
  blk_simp
  rw [after4_5]
  frame_out
  refine eq_ofMat_rows _ _ t.val ht _ y ?_ (by blk_simp [e5]) (by blk_simp [e5])
  rw [k4_pay2_mat, b0, b3]
  rfl

end Cert.KernelIdeal.Arrays
end
-- ==== Proof.Chain.lean ====
/-
  What each result buffer of the kernel holds when @main ends, over the arguments as launched: the regions' arrays taken
  one after the other through the boundaries of @main.
-/
module
public import proofs.«01_k».proof.Proof.Model
public import proofs.«01_k».proof.Proof.Array0
public import proofs.«01_k».proof.Proof.Array1
public import proofs.«01_k».proof.Proof.Array2
public import proofs.«01_k».proof.Proof.Array3
public import proofs.«01_k».proof.Proof.Array4
public import proofs.«01_k».proof.Proof.KernelIdeal.Fold
@[expose] public section
set_option maxRecDepth 16384
set_option maxHeartbeats 1000000
noncomputable section
namespace Cert.KernelIdeal.Chain
open Idealize.ShloMosaic Idealize.ShloMosaic.TcCoe Idealize.ShloMosaic.StableHlo Cert.Mat Cert.KernelIdeal.Gen Cert.KernelIdeal.Whole
variable (m : (ℓ : Loc nD τ sig) → Buf (Elt Ideal) ℓ) (ρ : Dev nD → PrngReg) (c : Dev nD)

/-- The kernel's arguments on device `c`, as matrices. -/
def args : Args where
  feat1 := toMat (m ((c : Thread nD τ).loc main_arg0))
  feat2 := toMat (m ((c : Thread nD τ).loc main_arg1))
  a11 := toMat (m ((c : Thread nD τ).loc main_arg2))
  a12 := toMat (m ((c : Thread nD τ).loc main_arg3))
  a21 := toMat (m ((c : Thread nD τ).loc main_arg4))
  a22 := toMat (m ((c : Thread nD τ).loc main_arg5))
  We1 := toMat (m ((c : Thread nD τ).loc main_arg6))
  Wd1 := toMat (m ((c : Thread nD τ).loc main_arg7))
  We2 := toMat (m ((c : Thread nD τ).loc main_arg8))
  Wd2 := toMat (m ((c : Thread nD τ).loc main_arg9))
  w1 := toMat (m ((c : Thread nD τ).loc main_arg10))
  u1 := toMat (m ((c : Thread nD τ).loc main_arg11))
  w2 := toMat (m ((c : Thread nD τ).loc main_arg12))
  u2 := toMat (m ((c : Thread nD τ).loc main_arg13))
  wc := toMat (m ((c : Thread nD τ).loc main_arg14))
  uc := toMat (m ((c : Thread nD τ).loc main_arg15))
  d1 := tr (toMat (m ((c : Thread nD τ).loc main_arg16)))
  b1 := rowOf (m ((c : Thread nD τ).loc main_arg17))
  d2 := tr (toMat (m ((c : Thread nD τ).loc main_arg18)))
  b2 := rowOf (m ((c : Thread nD τ).loc main_arg19))
  d3 := tr (toMat (m ((c : Thread nD τ).loc main_arg20)))
  b3 := rowOf (m ((c : Thread nD τ).loc main_arg21))

/-! ## Regions 0 and 1 -/

theorem arg0 (a : Ref sig .tc) (ha : a ∈ argRefs) : V0 m ρ c a = m ((c : Thread nD τ).loc a) := W0_args m ρ c a ha
theorem arg1 (a : Ref sig .tc) (ha : a ∈ argRefs) : V1 m ρ c a = m ((c : Thread nD τ).loc a) := W1_args m ρ c a ha
theorem arg3 (a : Ref sig .tc) (ha : a ∈ argRefs) : V3 m ρ c a = m ((c : Thread nD τ).loc a) := W3_args m ρ c a ha
theorem arg4 (a : Ref sig .tc) (ha : a ∈ argRefs) : V4 m ρ c a = m ((c : Thread nD τ).loc a) := W4_args m ρ c a ha

theorem V1_m1 : V1 m ρ c main_v0_0 = ofMat (mm (args m c).Wd1 (args m c).We1) :=
  (W1_arr m ρ c 4).trans ((Arrays.m1 (V0 m ρ) c).trans rfl)
theorem V1_m2 : V1 m ρ c main_v0_1 = ofMat (mm (args m c).Wd2 (args m c).We2) :=
  (W1_arr m ρ c 5).trans ((Arrays.m2 (V0 m ρ) c).trans rfl)

theorem V2_t1 : V2 m ρ c main_v1_0 = ofMat (args m c).t1 :=
  (W2_arr m ρ c 4).trans ((Arrays.t1 (V1 m ρ) c).trans (by rw [arg1 m ρ c main_arg0 (by decide), arg1 m ρ c main_arg6 (by decide)]; rfl))
theorem V2_t2 : V2 m ρ c main_v1_1 = ofMat (args m c).t2 :=
  (W2_arr m ρ c 5).trans ((Arrays.t2 (V1 m ρ) c).trans (by rw [arg1 m ρ c main_arg1 (by decide), arg1 m ρ c main_arg8 (by decide)]; rfl))

/-! ## The host operations before region 2 -/

theorem V3_t1 : V3 m ρ c main_v1_0 = ofMat (args m c).t1 := (W3_of m ρ c main_v1_0 (by decide)).trans (V2_t1 m ρ c)
theorem V3_t2 : V3 m ρ c main_v1_1 = ofMat (args m c).t2 := (W3_of m ρ c main_v1_1 (by decide)).trans (V2_t2 m ρ c)

/-- What the six host operations before region 2 write. -/
theorem V3_host : V3 m ρ c main_v2 = transpose S64x50 [1, 0] (V2 m ρ c main_arg16) transposes_S50x64_S64x50_1_0
    ∧ V3 m ρ c main_v3 = shapeCast S1x50 (V2 m ρ c main_arg17) shapeCasts_S50_S1x50
    ∧ V3 m ρ c main_v4 = transpose S50x100 [1, 0] (V2 m ρ c main_arg18) transposes_S100x50_S50x100_1_0
    ∧ V3 m ρ c main_v5 = shapeCast S1x100 (V2 m ρ c main_arg19) shapeCasts_S100_S1x100
    ∧ V3 m ρ c main_v6 = transpose S100x1 [1, 0] (V2 m ρ c main_arg20) transposes_S1x100_S100x1_1_0
    ∧ V3 m ρ c main_v7 = shapeCast S1x1 (V2 m ρ c main_arg21) shapeCasts_S1_S1x1 := by
  refine ⟨?_, ?_, ?_, ?_, ?_, ?_⟩ <;>
    (simp only [V3, W3, hostOps2]
     after_results_simp
     try rfl)

/-- The discriminator's arguments as region 2 reads them. -/
theorem V3_disc : toMat (V3 m ρ c main_v2) = (args m c).d1 ∧ toMat (V3 m ρ c main_v3) = (args m c).b1
    ∧ toMat (V3 m ρ c main_v4) = (args m c).d2 ∧ toMat (V3 m ρ c main_v5) = (args m c).b2
    ∧ toMat (V3 m ρ c main_v6) = (args m c).d3 ∧ toMat (V3 m ρ c main_v7) = (args m c).b3 := by
  have hw : ∀ a ∈ argRefs, V2 m ρ c a = m ((c : Thread nD τ).loc a) := fun a ha => W2_args m ρ c a ha
  obtain ⟨h2, h3, h4, h5, h6, h7⟩ := V3_host m ρ c
  rw [h2, h3, h4, h5, h6, h7, hw main_arg16 (by decide), hw main_arg17 (by decide), hw main_arg18 (by decide),
    hw main_arg19 (by decide), hw main_arg20 (by decide), hw main_arg21 (by decide)]
  refine ⟨?_, ?_, ?_, ?_, ?_, ?_⟩ <;>
    (funext i j
     try obtain rfl := Subsingleton.elim 0 j
     pointwise [toMat, args, tr, rowOf])

/-! ## Region 2 -/

theorem E1_eq : Arrays.E1 (V3 m ρ) c = (args m c).E1 wK := by
  unfold Arrays.E1
  rw [arg3 m ρ c main_arg2 (by decide), arg3 m ρ c main_arg3 (by decide), V3_t1, arg3 m ρ c main_arg10 (by decide),
    arg3 m ρ c main_arg11 (by decide)]
  rfl
theorem E2_eq : Arrays.E2 (V3 m ρ) c = (args m c).E2 wK := by
  unfold Arrays.E2
  rw [arg3 m ρ c main_arg4 (by decide), arg3 m ρ c main_arg5 (by decide), V3_t2, arg3 m ρ c main_arg12 (by decide),
    arg3 m ρ c main_arg13 (by decide)]
  rfl
theorem C_eq : Arrays.C (V3 m ρ) c = (args m c).C wK := by
  unfold Arrays.C
  rw [E1_eq, E2_eq, arg3 m ρ c main_arg14 (by decide), arg3 m ρ c main_arg15 (by decide)]
  rfl

theorem V4_E1 : V4 m ρ c main_v8_0 = ofMat ((args m c).E1 wK) :=
  (W4_arr m ρ c 18).trans ((Arrays.res_E1 (V3 m ρ) c).trans (by rw [E1_eq]))
theorem V4_E2 : V4 m ρ c main_v8_1 = ofMat ((args m c).E2 wK) :=
  (W4_arr m ρ c 19).trans ((Arrays.res_E2 (V3 m ρ) c).trans (by rw [E2_eq]))
theorem V4_C : V4 m ρ c main_v8_2 = ofMat ((args m c).C wK) :=
  (W4_arr m ρ c 20).trans ((Arrays.res_C (V3 m ρ) c).trans (by rw [C_eq]))
theorem V4_al1 : V4 m ρ c main_v8_3 = ofMat ((args m c).al1 wK) :=
  (W4_arr m ρ c 21).trans ((Arrays.res_al1 (V3 m ρ) c).trans (by
    rw [arg3 m ρ c main_arg2 (by decide), arg3 m ρ c main_arg3 (by decide), V3_t1, arg3 m ρ c main_arg10 (by decide),
      arg3 m ρ c main_arg11 (by decide)]
    rfl))
theorem V4_al2 : V4 m ρ c main_v8_4 = ofMat ((args m c).al2 wK) :=
  (W4_arr m ρ c 22).trans ((Arrays.res_al2 (V3 m ρ) c).trans (by
    rw [arg3 m ρ c main_arg4 (by decide), arg3 m ρ c main_arg5 (by decide), V3_t2, arg3 m ρ c main_arg12 (by decide),
      arg3 m ρ c main_arg13 (by decide)]
    rfl))
theorem V4_al12 : V4 m ρ c main_v8_5 = ofMat ((args m c).al12 wK) :=
  (W4_arr m ρ c 23).trans ((Arrays.res_al12 (V3 m ρ) c).trans (by
    rw [E1_eq, E2_eq, arg3 m ρ c main_arg14 (by decide), arg3 m ρ c main_arg15 (by decide)]
    rfl))
theorem V4_s1 : V4 m ρ c main_v8_6 = ofMat ((args m c).s1 wK) :=
  (W4_arr m ρ c 24).trans ((Arrays.res_s1 (V3 m ρ) c).trans (by
    obtain ⟨h2, h3, h4, h5, h6, h7⟩ := V3_disc m ρ c
    rw [E1_eq, h2, h3, h4, h5, h6, h7]
    rfl))
theorem V4_s2 : V4 m ρ c main_v8_7 = ofMat ((args m c).s2 wK) :=
  (W4_arr m ρ c 25).trans ((Arrays.res_s2 (V3 m ρ) c).trans (by
    obtain ⟨h2, h3, h4, h5, h6, h7⟩ := V3_disc m ρ c
    rw [E2_eq, h2, h3, h4, h5, h6, h7]
    rfl))
theorem V4_a11 : V4 m ρ c main_v8_8 = ofMat (args m c).a11 :=
  (W4_arr m ρ c 26).trans ((Arrays.res_a11 (V3 m ρ) c).trans (by rw [arg3 m ρ c main_arg2 (by decide)]; rfl))
theorem V4_a21 : V4 m ρ c main_v8_9 = ofMat (args m c).a21 :=
  (W4_arr m ρ c 27).trans ((Arrays.res_a21 (V3 m ρ) c).trans (by rw [arg3 m ρ c main_arg4 (by decide)]; rfl))
theorem V4_ce1 : V4 m ρ c main_v8_10 = ofMat (beside ((args m c).C wK) ((args m c).E1 wK)) :=
  (W4_arr m ρ c 28).trans ((Arrays.res_ce1 (V3 m ρ) c).trans (by rw [C_eq, E1_eq]))
theorem V4_ce2 : V4 m ρ c main_v8_11 = ofMat (beside ((args m c).C wK) ((args m c).E2 wK)) :=
  (W4_arr m ρ c 29).trans ((Arrays.res_ce2 (V3 m ρ) c).trans (by rw [C_eq, E2_eq]))
theorem V4_m1 : V4 m ρ c main_v0_0 = ofMat (mm (args m c).Wd1 (args m c).We1) :=
  (W4_of m ρ c main_v0_0 (by decide)).trans ((W3_of m ρ c main_v0_0 (by decide)).trans
    ((W2_of m ρ c main_v0_0 (by decide)).trans (V1_m1 m ρ c)))
theorem V4_m2 : V4 m ρ c main_v0_1 = ofMat (mm (args m c).Wd2 (args m c).We2) :=
  (W4_of m ρ c main_v0_1 (by decide)).trans ((W3_of m ρ c main_v0_1 (by decide)).trans
    ((W2_of m ρ c main_v0_1 (by decide)).trans (V1_m2 m ρ c)))

/-! ## Regions 3 and 4 -/

theorem V5_r1 : V5 m ρ c main_v9_0 = ofMat (args m c).r1K :=
  (W5_arr m ρ c 8).trans ((Arrays.r1 (V4 m ρ) c).trans (by
    rw [V4_a11, V4_ce2, arg4 m ρ c main_arg7 (by decide), toMat_ofMat, toMat_ofMat, left_mm_beside]
    rfl))
theorem V5_r2 : V5 m ρ c main_v9_1 = ofMat (args m c).r2K :=
  (W5_arr m ρ c 9).trans ((Arrays.r2 (V4 m ρ) c).trans (by
    rw [V4_a21, V4_ce1, arg4 m ρ c main_arg9 (by decide), toMat_ofMat, toMat_ofMat, left_mm_beside]
    rfl))
theorem V5_z1 : V5 m ρ c main_v9_2 = ofMat (mm (mm (args m c).a21 ((args m c).E1 wK)) (mm (args m c).Wd2 (args m c).We2)) :=
  (W5_arr m ρ c 10).trans ((Arrays.z1 (V4 m ρ) c).trans (by
    rw [V4_a21, V4_ce1, V4_m2, toMat_ofMat, toMat_ofMat, toMat_ofMat, right_mm_beside]))
theorem V5_z2 : V5 m ρ c main_v9_3 = ofMat (mm (mm (args m c).a11 ((args m c).E2 wK)) (mm (args m c).Wd1 (args m c).We1)) :=
  (W5_arr m ρ c 11).trans ((Arrays.z2 (V4 m ρ) c).trans (by
    rw [V4_a11, V4_ce2, V4_m1, toMat_ofMat, toMat_ofMat, toMat_ofMat, right_mm_beside]))
theorem V5_a11 : V5 m ρ c main_v8_8 = ofMat (args m c).a11 := (W5_of m ρ c main_v8_8 (by decide)).trans (V4_a11 m ρ c)
theorem V5_a21 : V5 m ρ c main_v8_9 = ofMat (args m c).a21 := (W5_of m ρ c main_v8_9 (by decide)).trans (V4_a21 m ρ c)

theorem V6_l1 : V6 m ρ c main_v10_0 = ofMat (args m c).l1K :=
  (W6_arr m ρ c 4).trans ((Arrays.l1 (V5 m ρ) c).trans (by rw [V5_a21, V5_z1]; rfl))
theorem V6_l2 : V6 m ρ c main_v10_1 = ofMat (args m c).l2K :=
  (W6_arr m ρ c 5).trans ((Arrays.l2 (V5 m ρ) c).trans (by rw [V5_a11, V5_z2]; rfl))

/-! ## The end -/

/-- A buffer that nothing after region 2 writes ends as region 2 left it. -/
theorem keep4 (r : Ref sig .tc) (h5 : ∀ w : Fin cfg3.W, Pipeline.arrRef spec3 w = r → (cfg3.win w).isOut = false)
    (h6 : ∀ w : Fin cfg4.W, Pipeline.arrRef spec4 w = r → (cfg4.win w).isOut = false) (h7 : r ∉ hostOps5_W) :
    W7 m ρ c (Proc.devRef .tc r) = V4 m ρ c r :=
  (W7_of m ρ c r h7).trans ((W6_of m ρ c r h6).trans (W5_of m ρ c r h5))

/-- What every result buffer holds when @main ends. -/
theorem results : W7 m ρ c (Proc.devRef .tc main_v8_0) = ofMat ((args m c).E1 wK)
    ∧ W7 m ρ c (Proc.devRef .tc main_v8_1) = ofMat ((args m c).E2 wK)
    ∧ W7 m ρ c (Proc.devRef .tc main_v8_2) = ofMat ((args m c).C wK)
    ∧ W7 m ρ c (Proc.devRef .tc main_v10_0) = ofMat (args m c).l1K
    ∧ W7 m ρ c (Proc.devRef .tc main_v10_1) = ofMat (args m c).l2K
    ∧ W7 m ρ c (Proc.devRef .tc main_v9_0) = ofMat (args m c).r1K
    ∧ W7 m ρ c (Proc.devRef .tc main_v9_1) = ofMat (args m c).r2K
    ∧ W7 m ρ c (Proc.devRef .tc main_v8_3) = ofMat ((args m c).al1 wK)
    ∧ W7 m ρ c (Proc.devRef .tc main_v8_4) = ofMat ((args m c).al2 wK)
    ∧ W7 m ρ c (Proc.devRef .tc main_v8_5) = ofMat ((args m c).al12 wK)
    ∧ W7 m ρ c (Proc.devRef .tc main_v11) = shapeCast S4096 (ofMat ((args m c).s1 wK) : FVec Ideal S4096x1 .f32) shapeCasts_S4096x1_S4096
    ∧ W7 m ρ c (Proc.devRef .tc main_v12) = shapeCast S4096 (ofMat ((args m c).s2 wK) : FVec Ideal S4096x1 .f32) shapeCasts_S4096x1_S4096 := by
  have k6 (r : Ref sig .tc) (h5 : ∀ w : Fin cfg3.W, Pipeline.arrRef spec3 w = r → (cfg3.win w).isOut = false)
      (h6 : ∀ w : Fin cfg4.W, Pipeline.arrRef spec4 w = r → (cfg4.win w).isOut = false) : V6 m ρ c r = V4 m ρ c r :=
    (W6_of m ρ c r h6).trans (W5_of m ρ c r h5)
  have h11 : W7 m ρ c (Proc.devRef .tc main_v11) = shapeCast S4096 (V6 m ρ c main_v8_6) shapeCasts_S4096x1_S4096 := by
    simp only [W7, hostOps5]
    after_results_simp
    rfl
  have h12 : W7 m ρ c (Proc.devRef .tc main_v12) = shapeCast S4096 (V6 m ρ c main_v8_7) shapeCasts_S4096x1_S4096 := by
    simp only [W7, hostOps5]
    after_results_simp
    rfl
  refine ⟨(keep4 m ρ c _ (by decide) (by decide) (by decide)).trans (V4_E1 m ρ c),
    (keep4 m ρ c _ (by decide) (by decide) (by decide)).trans (V4_E2 m ρ c),
    (keep4 m ρ c _ (by decide) (by decide) (by decide)).trans (V4_C m ρ c),
    (W7_of m ρ c main_v10_0 (by decide)).trans (V6_l1 m ρ c),
    (W7_of m ρ c main_v10_1 (by decide)).trans (V6_l2 m ρ c),
    (W7_of m ρ c main_v9_0 (by decide)).trans ((W6_of m ρ c main_v9_0 (by decide)).trans (V5_r1 m ρ c)),
    (W7_of m ρ c main_v9_1 (by decide)).trans ((W6_of m ρ c main_v9_1 (by decide)).trans (V5_r2 m ρ c)),
    (keep4 m ρ c _ (by decide) (by decide) (by decide)).trans (V4_al1 m ρ c),
    (keep4 m ρ c _ (by decide) (by decide) (by decide)).trans (V4_al2 m ρ c),
    (keep4 m ρ c _ (by decide) (by decide) (by decide)).trans (V4_al12 m ρ c), ?_, ?_⟩
  · rw [h11, k6 main_v8_6 (by decide) (by decide), V4_s1]
  · rw [h12, k6 main_v8_7 (by decide) (by decide), V4_s2]

end Cert.KernelIdeal.Chain
end
-- ==== Proof.Finite.lean ====
/-
  What the precondition says of the kernel's arguments, as matrices: thirteen of them hold no infinity, so each of their
  elements is a real number.
-/
module
public import proofs.«01_k».proof.Defs
public import proofs.«01_k».proof.Proof.Model
public import proofs.«01_k».proof.Proof.Chain
public import Idealize.ShloMosaic.Lib.Pointwise
@[expose] public section
set_option maxRecDepth 16384
noncomputable section
namespace Cert.Pre_finite_inputs
open Idealize.ShloMosaic Cert.Mat

/-- The shape relations the precondition states. -/
theorem facts : Facts where
  bcast_S_S4096x3000 := by decide
  bcast_S_S4096x4096 := by decide
  bcast_S_S3000x64 := by decide
  bcast_S_S64x3000 := by decide
  bcast_S_S64x1 := by decide

/-- The 32-bit word of the precondition's bound denotes `⊤`. -/
theorem ofBits_top : Ideal.ofBits .f32 0x7F800000#32 = ⊤ := by
  unfold Ideal.ofBits Ideal.ieee
  have h : (BitVec.extractLsb' 23 8 0x7F800000#32).toNat = 2 ^ 8 - 1 := by decide
  simp [h]

/-- An extended real whose absolute value is below `⊤` is a real number. -/
theorem real_of_abs_lt {x : EReal} (h : max x (-x) < ⊤) : ∃ r : ℝ, x = r := by
  obtain ⟨h1, h2⟩ := max_lt_iff.1 h
  refine ⟨x.toReal, (EReal.coe_toReal h1.ne ?_).symm⟩
  rintro rfl
  simp at h2

/-- An array whose absolute value compares below the bound everywhere is a matrix of real numbers. -/
theorem isReal_of {m n : ℕ} (x : FVec Ideal (⟨2, ![m, n]⟩ : Shape) .f32)
    (hb : S_.BroadcastsInDim (⟨2, ![m, n]⟩ : Shape) (![] : Fin 0 → Fin 2))
    (h : cmpf .olt (Host.absf x) (broadcastInDim (⟨2, ![m, n]⟩ : Shape) ![] hb (constant S_ .f32 0x7F800000#32)) = fun _ => 1#1) :
    IsReal (toMat x) :=
  IsReal.of_forall fun i j => by
    have e : BitVec.ofBool (decide (max (x (ix2 i j)) (-(x (ix2 i j))) < Ideal.ofBits .f32 0x7F800000#32)) = 1#1 :=
      congrFun h (ix2 i j)
    rw [ofBits_top] at e
    have lt : max (x (ix2 i j)) (-(x (ix2 i j))) < (⊤ : EReal) := by_contra fun hn => absurd (decide_eq_false hn ▸ e) (by decide)
    exact real_of_abs_lt lt

end Cert.Pre_finite_inputs

namespace Cert.KernelIdeal.Chain
open Idealize.ShloMosaic Idealize.ShloMosaic.TcCoe Cert.Mat Cert.Pre_finite_inputs

/-- Under the precondition the thirteen arguments it names are real. -/
theorem args_real (hP : Cert.Pre_finite_inputs.Facts) (m : (ℓ : Loc nD τ sig) → Buf (Elt Ideal) ℓ)
    (h : Cert.Pre_KernelIdeal_finite_inputs m) (c : Dev nD) : (args m c).Real := by
  obtain ⟨h0, h1, h2, h3, h4, h5, h6, h7, h8, h9, h11, h13, h15⟩ := h c
  exact ⟨isReal_of _ hP.bcast_S_S4096x3000 h0, isReal_of _ hP.bcast_S_S4096x3000 h1, isReal_of _ hP.bcast_S_S4096x4096 h2,
    isReal_of _ hP.bcast_S_S4096x4096 h3, isReal_of _ hP.bcast_S_S4096x4096 h4, isReal_of _ hP.bcast_S_S4096x4096 h5,
    isReal_of _ hP.bcast_S_S3000x64 h6, isReal_of _ hP.bcast_S_S64x3000 h7, isReal_of _ hP.bcast_S_S3000x64 h8,
    isReal_of _ hP.bcast_S_S64x3000 h9, isReal_of _ hP.bcast_S_S64x1 h11, isReal_of _ hP.bcast_S_S64x1 h13,
    isReal_of _ hP.bcast_S_S64x1 h15⟩

end Cert.KernelIdeal.Chain

end
-- ==== Proof.RefAttend.lean ====
/-
  What the reference's attention computes: two matrices stacked along a middle axis, a score for each of the two, the
  softmax over the two, and the weighted sum.
-/
module
public import proofs.«01_k».proof.Proof.Mat
public import proofs.«01_k».proof.Proof.Gen.ReferenceIdeal.Run
public import Idealize.ShloMosaic.Lib.Pointwise
@[expose] public section
set_option maxRecDepth 16384
noncomputable section
namespace Cert.ReferenceIdeal.Read
open Idealize.ShloMosaic Idealize.ShloMosaic.StableHlo Cert.Mat Cert.ReferenceIdeal Cert.ReferenceIdeal.Gen

/-- Two matrices stacked along a new middle axis. -/
def pair (X Y : FVec Ideal S4096x64 .f32) : FVec Ideal S4096x2x64 .f32 :=
  concatenate S4096x2x64 1 [⟨S4096x1x64, broadcastInDim S4096x1x64 ![0, 2] bcast_S4096x64_S4096x1x64_0_2 X⟩,
    ⟨S4096x1x64, broadcastInDim S4096x1x64 ![0, 2] bcast_S4096x64_S4096x1x64_0_2 Y⟩] concatenates_S4096x1x64_S4096x1x64_S4096x2x64_d1

theorem pair_apply (X Y : FVec Ideal S4096x64 .f32) (i : Fin 4096) (k : Fin 2) (j : Fin 64) :
    pair X Y (ix3 i k j) = if k.val < 1 then X (ix2 i j) else Y (ix2 i j) := by
  pointwise [pair]
  simp only [dite_eq_ite]

/-- The scores of the stacked matrices, a column for each. -/
def scores (P : FVec Ideal S4096x2x64 .f32) (w : FVec Ideal S64x64 .f32) (u : FVec Ideal S64x1 .f32) : FVec Ideal S4096x2 .f32 :=
  addf (shapeCast _ (Host.dotGeneral dot_S4096x2x64_S64x1_S4096x2x1_2_0_01_1_n_n none
      (Host.tanh (Host.dotGeneral dot_S4096x2x64_S64x64_S4096x2x64_2_0_01_1_n_n none P w)) u) shapeCasts_S4096x2x1_S4096x2)
    (broadcastInDim S4096x2 ![] bcast_S_S4096x2 (constant S_ .f32 0x358637BD#32))

theorem scores_pair (X Y : FVec Ideal S4096x64 .f32) (w : FVec Ideal S64x64 .f32) (u : FVec Ideal S64x1 .f32) (i : Fin 4096)
    (k : Fin 2) : scores (pair X Y) w u (ix2 i k)
      = if k.val < 1 then score (toMat X) (toMat w) (toMat u) i else score (toMat Y) (toMat w) (toMat u) i := by
  pointwise [scores]
  simp only [pair_apply]
  split <;> rfl

/-- The exponentials of the scores less their maximum. -/
def expo (S : FVec Ideal S4096x2 .f32) : FVec Ideal S4096x2 .f32 :=
  Host.exp (subf S (broadcastInDim S4096x2 ![0, 1] bcast_S4096x1_S4096x2_0_1 (broadcastInDim S4096x1 ![0] bcast_S4096_S4096x1_0
    (maximumf (broadcastInDim S4096 ![] bcast_S_S4096 (constant S_ .f32 0xFF800000#32))
      (Host.reduce FloatOps.maximumf S (constant S_ .f32 0xFF800000#32) reducesTo_S4096x2_S4096_d1 h_S_)))))

theorem ofBits_bot : Ideal.ofBits .f32 0xFF800000#32 = ⊥ := by
  unfold Ideal.ofBits Ideal.ieee
  have h : (BitVec.extractLsb' 23 8 0xFF800000#32).toNat = 2 ^ 8 - 1 := by decide
  simp [h]

theorem expo_apply (S : FVec Ideal S4096x2 .f32) (i : Fin 4096) (k : Fin 2) :
    expo S (ix2 i k) = Ideal.exp (S (ix2 i k) - max (S (ix2 i 0)) (S (ix2 i 1))) := by
  pointwise [expo]
  rw [ofBits_bot, show (Finset.univ : Finset (Fin 2)) = {0, 1} from rfl, Finset.fold_insert (by decide),
    Finset.fold_singleton]
  simp

/-- The exponentials divided by their sum. -/
def weights (E : FVec Ideal S4096x2 .f32) : FVec Ideal S4096x2 .f32 :=
  Host.divf E (broadcastInDim S4096x2 ![0, 1] bcast_S4096x1_S4096x2_0_1 (broadcastInDim S4096x1 ![0] bcast_S4096_S4096x1_0
    (Host.reduceAdd E (constant S_ .f32 0x00000000#32) reducesTo_S4096x2_S4096_d1 h_S_)))

theorem weights_apply (E : FVec Ideal S4096x2 .f32) (i : Fin 4096) (k : Fin 2) :
    weights E (ix2 i k) = Ideal.div (E (ix2 i k)) (E (ix2 i 0) + E (ix2 i 1)) := by
  pointwise [weights]
  rw [Fin.sum_univ_two]

/-- The attention weights the reference computes are `alphas` with the softmax spelt as a quotient. -/
theorem weights_mat (X Y : FVec Ideal S4096x64 .f32) (w : FVec Ideal S64x64 .f32) (u : FVec Ideal S64x1 .f32) :
    toMat (weights (expo (scores (pair X Y) w u))) = alphas wR (toMat X) (toMat Y) (toMat w) (toMat u) := by
  funext i j
  unfold toMat
  rw [weights_apply]
  simp only [expo_apply, scores_pair, alphas, wR]
  fin_cases j <;> rfl

/-- The sum of the two stacked matrices, weighted. -/
def attend (P : FVec Ideal S4096x2x64 .f32) (A : FVec Ideal S4096x2 .f32) : FVec Ideal S4096x64 .f32 :=
  Host.dotGeneral dot_S4096x2x64_S4096x2_S4096x64_1_1_2_n_0_0 none P A

/-- The attended matrix the reference computes is `att` with the softmax spelt as a quotient. -/
theorem attend_mat (X Y : FVec Ideal S4096x64 .f32) (w : FVec Ideal S64x64 .f32) (u : FVec Ideal S64x1 .f32) :
    toMat (attend (pair X Y) (weights (expo (scores (pair X Y) w u)))) = att wR (toMat X) (toMat Y) (toMat w) (toMat u) := by
  funext i j
  unfold att
  rw [← weights_mat]
  generalize weights (expo (scores (pair X Y) w u)) = A
  pointwise [attend, toMat]
  rw [Fin.sum_univ_two, pair_apply, pair_apply]
  rfl

end Cert.ReferenceIdeal.Read
end
-- ==== Proof.RefDisc.lean ====
/-
  What the reference's discriminator and its matrix products compute.
-/
module
public import proofs.«01_k».proof.Proof.Mat
public import proofs.«01_k».proof.Proof.Gen.ReferenceIdeal.Run
public import Idealize.ShloMosaic.Lib.Pointwise
@[expose] public section
set_option maxRecDepth 16384
noncomputable section
namespace Cert.ReferenceIdeal.Read
open Idealize.ShloMosaic Idealize.ShloMosaic.StableHlo Cert.Mat Cert.ReferenceIdeal Cert.ReferenceIdeal.Gen

/-- The first hidden layer before its rectifier. -/
def dense1 (X : FVec Ideal S4096x64 .f32) (w : FVec Ideal S50x64 .f32) (b : FVec Ideal S50 .f32) : FVec Ideal S4096x50 .f32 :=
  addf (Host.dotGeneral dot_S4096x64_S64x50_S4096x50_1_0_0_1_n_n none X (transpose S64x50 [1, 0] w transposes_S50x64_S64x50_1_0))
    (broadcastInDim S4096x50 ![0, 1] bcast_S1x50_S4096x50_0_1 (broadcastInDim S1x50 ![1] bcast_S50_S1x50_1 b))

/-- The second hidden layer before its rectifier, from the first before its own. -/
def dense2 (H : FVec Ideal S4096x50 .f32) (w : FVec Ideal S100x50 .f32) (b : FVec Ideal S100 .f32) : FVec Ideal S4096x100 .f32 :=
  addf (Host.dotGeneral dot_S4096x50_S50x100_S4096x100_1_0_0_1_n_n none
      (select (cmpf .oge H (broadcastInDim S4096x50 ![] bcast_S_S4096x50 (constant S_ .f32 0x00000000#32))) H
        (mulf (broadcastInDim S4096x50 ![] bcast_S_S4096x50 (id (constant S_ .f32 0x3C23D70A#32))) H))
      (transpose S50x100 [1, 0] w transposes_S100x50_S50x100_1_0))
    (broadcastInDim S4096x100 ![0, 1] bcast_S1x100_S4096x100_0_1 (broadcastInDim S1x100 ![1] bcast_S100_S1x100_1 b))

/-- The logistic output, from the second hidden layer before its rectifier. -/
def dense3 (H : FVec Ideal S4096x100 .f32) (w : FVec Ideal S1x100 .f32) (b : FVec Ideal S1 .f32) : FVec Ideal S4096x1 .f32 :=
  Host.divf (broadcastInDim S4096x1 ![] bcast_S_S4096x1 (constant S_ .f32 0x3F800000#32))
    (addf (broadcastInDim S4096x1 ![] bcast_S_S4096x1 (constant S_ .f32 0x3F800000#32))
      (Host.exp (Host.negf (addf (Host.dotGeneral dot_S4096x100_S100x1_S4096x1_1_0_0_1_n_n none
          (select (cmpf .oge H (broadcastInDim S4096x100 ![] bcast_S_S4096x100 (constant S_ .f32 0x00000000#32))) H
            (mulf (broadcastInDim S4096x100 ![] bcast_S_S4096x100 (id (constant S_ .f32 0x3C23D70A#32))) H))
          (transpose S100x1 [1, 0] w transposes_S1x100_S100x1_1_0))
        (broadcastInDim S4096x1 ![0, 1] bcast_S1x1_S4096x1_0_1 (broadcastInDim S1x1 ![1] bcast_S1_S1x1_1 b))))))

theorem dense1_leaky (X : FVec Ideal S4096x64 .f32) (w : FVec Ideal S50x64 .f32) (b : FVec Ideal S50 .f32) (i : Fin 4096) (j : Fin 50) :
    leaky (dense1 X w b (ix2 i j)) = layer (toMat X) (tr (toMat w)) (rowOf b) i j := by
  pointwise [dense1, layer, toMat, tr, rowOf, mm]

theorem dense2_leaky (H : FVec Ideal S4096x50 .f32) (w : FVec Ideal S100x50 .f32) (b : FVec Ideal S100 .f32) (i : Fin 4096) (j : Fin 100) :
    leaky (dense2 H w b (ix2 i j)) = layer (fun i j => leaky (H (ix2 i j))) (tr (toMat w)) (rowOf b) i j := by
  pointwise [dense2, layer, toMat, tr, rowOf, mm, leaky, negSlope]
  rfl

theorem dense3_mat (X : FVec Ideal S4096x64 .f32) (w1 : FVec Ideal S50x64 .f32) (b1 : FVec Ideal S50 .f32)
    (w2 : FVec Ideal S100x50 .f32) (b2 : FVec Ideal S100 .f32) (w3 : FVec Ideal S1x100 .f32) (b3 : FVec Ideal S1 .f32) :
    toMat (dense3 (dense2 (dense1 X w1 b1) w2 b2) w3 b3)
      = disc (toMat X) (tr (toMat w1)) (rowOf b1) (tr (toMat w2)) (rowOf b2) (tr (toMat w3)) (rowOf b3) := by
  have h2 : layer (layer (toMat X) (tr (toMat w1)) (rowOf b1)) (tr (toMat w2)) (rowOf b2)
      = fun i j => leaky (dense2 (dense1 X w1 b1) w2 b2 (ix2 i j)) := by
    funext i j
    rw [dense2_leaky]
    simp only [dense1_leaky]
  unfold disc
  rw [h2]
  generalize dense2 (dense1 X w1 b1) w2 b2 = H
  funext i j
  obtain rfl := Subsingleton.elim 0 j
  pointwise [dense3, toMat, tr, rowOf, mm, leaky, negSlope, Ideal.logistic]
  rfl

/-! ## The products -/

theorem dot_mat1 (A : FVec Ideal S4096x4096 .f32) (B : FVec Ideal S4096x64 .f32) :
    toMat (Host.dotGeneral dot_S4096x4096_S4096x64_S4096x64_1_0_0_1_n_n none A B) = mm (toMat A) (toMat B) := by
  funext i j; pointwise [mm, toMat]
theorem dot_mat2 (A : FVec Ideal S4096x3000 .f32) (B : FVec Ideal S3000x64 .f32) :
    toMat (Host.dotGeneral dot_S4096x3000_S3000x64_S4096x64_1_0_0_1_n_n none A B) = mm (toMat A) (toMat B) := by
  funext i j; pointwise [mm, toMat]
theorem dot_mat3 (A : FVec Ideal S4096x4096 .f32) (B : FVec Ideal S4096x3000 .f32) :
    toMat (Host.dotGeneral dot_S4096x4096_S4096x3000_S4096x3000_1_0_0_1_n_n none A B) = mm (toMat A) (toMat B) := by
  funext i j; pointwise [mm, toMat]
theorem dot_mat4 (A : FVec Ideal S4096x64 .f32) (B : FVec Ideal S64x3000 .f32) :
    toMat (Host.dotGeneral dot_S4096x64_S64x3000_S4096x3000_1_0_0_1_n_n none A B) = mm (toMat A) (toMat B) := by
  funext i j; pointwise [mm, toMat]

end Cert.ReferenceIdeal.Read
end
-- ==== Proof.RefValue.lean ====
/-
  What the reference computes, over its arguments as launched: each of its results as the mathematics of `Model`.
-/
module
public import proofs.«01_k».proof.Proof.Model
public import proofs.«01_k».proof.Proof.RefAttend
public import proofs.«01_k».proof.Proof.RefDisc
@[expose] public section
set_option maxRecDepth 16384
noncomputable section
namespace Cert.ReferenceIdeal.Read
open Idealize.ShloMosaic Idealize.ShloMosaic.TcCoe Idealize.ShloMosaic.StableHlo Cert.Mat Cert.ReferenceIdeal Cert.ReferenceIdeal.Gen Cert.ReferenceIdeal.Value

variable (V : Valuation τ sig (Elt Ideal))

/-- The reference's arguments, as matrices. -/
def args : Args where
  feat1 := toMat (V (Proc.devRef .tc main_arg0))
  feat2 := toMat (V (Proc.devRef .tc main_arg1))
  a11 := toMat (V (Proc.devRef .tc main_arg2))
  a12 := toMat (V (Proc.devRef .tc main_arg3))
  a21 := toMat (V (Proc.devRef .tc main_arg4))
  a22 := toMat (V (Proc.devRef .tc main_arg5))
  We1 := toMat (V (Proc.devRef .tc main_arg6))
  Wd1 := toMat (V (Proc.devRef .tc main_arg7))
  We2 := toMat (V (Proc.devRef .tc main_arg8))
  Wd2 := toMat (V (Proc.devRef .tc main_arg9))
  w1 := toMat (V (Proc.devRef .tc main_arg10))
  u1 := toMat (V (Proc.devRef .tc main_arg11))
  w2 := toMat (V (Proc.devRef .tc main_arg12))
  u2 := toMat (V (Proc.devRef .tc main_arg13))
  wc := toMat (V (Proc.devRef .tc main_arg14))
  uc := toMat (V (Proc.devRef .tc main_arg15))
  d1 := tr (toMat (V (Proc.devRef .tc main_arg16)))
  b1 := rowOf (V (Proc.devRef .tc main_arg17))
  d2 := tr (toMat (V (Proc.devRef .tc main_arg18)))
  b2 := rowOf (V (Proc.devRef .tc main_arg19))
  d3 := tr (toMat (V (Proc.devRef .tc main_arg20)))
  b3 := rowOf (V (Proc.devRef .tc main_arg21))

/-- A matrix read off an array gives the array back. -/
theorem eq_ofMat' {m n : ℕ} {v : (⟨2, ![m, n]⟩ : Shape).Idx → EReal} {A : Mat m n} (h : toMat v = A) : v = ofMat A := by
  rw [← h, ofMat_toMat]

/-! ## The embeddings and their attention weights -/

theorem v1_mat : toMat (res_main_v1 V) = mm (args V).a11 (args V).t1 := (dot_mat1 _ _).trans (congrArg _ (dot_mat2 _ _))
theorem v9_mat : toMat (res_main_v9 V) = mm (args V).a12 (args V).t1 := (dot_mat1 _ _).trans (congrArg _ (dot_mat2 _ _))
theorem v5_mat : toMat (res_main_v5 V) = mm (args V).a21 (args V).t2 := (dot_mat1 _ _).trans (congrArg _ (dot_mat2 _ _))
theorem v13_mat : toMat (res_main_v13 V) = mm (args V).a22 (args V).t2 := (dot_mat1 _ _).trans (congrArg _ (dot_mat2 _ _))

theorem E1_mat : toMat (res_main_v36 V) = (args V).E1 wR :=
  (attend_mat (res_main_v1 V) (res_main_v9 V) _ _).trans (by rw [v1_mat, v9_mat]; rfl)
theorem E2_mat : toMat (res_main_v57 V) = (args V).E2 wR :=
  (attend_mat (res_main_v5 V) (res_main_v13 V) _ _).trans (by rw [v5_mat, v13_mat]; rfl)
theorem C_mat : toMat (res_main_v78 V) = (args V).C wR :=
  (attend_mat (res_main_v36 V) (res_main_v57 V) _ _).trans (by rw [E1_mat, E2_mat]; rfl)
theorem al1_mat : toMat (weights (res_main_v31 V)) = (args V).al1 wR :=
  (weights_mat (res_main_v1 V) (res_main_v9 V) _ _).trans (by rw [v1_mat, v9_mat]; rfl)
theorem al2_mat : toMat (weights (res_main_v52 V)) = (args V).al2 wR :=
  (weights_mat (res_main_v5 V) (res_main_v13 V) _ _).trans (by rw [v5_mat, v13_mat]; rfl)
theorem al12_mat : toMat (weights (res_main_v73 V)) = (args V).al12 wR :=
  (weights_mat (res_main_v36 V) (res_main_v57 V) _ _).trans (by rw [E1_mat, E2_mat]; rfl)

/-! ## The discriminators -/

theorem s1_mat : toMat (dense3 (res_main_v101 V) (V (Proc.devRef .tc main_arg20)) (V (Proc.devRef .tc main_arg21)))
    = (args V).s1 wR :=
  (dense3_mat (res_main_v36 V) _ _ _ _ _ _).trans (by rw [E1_mat]; rfl)
theorem s2_mat : toMat (dense3 (res_main_v125 V) (V (Proc.devRef .tc main_arg20)) (V (Proc.devRef .tc main_arg21)))
    = (args V).s2 wR :=
  (dense3_mat (res_main_v57 V) _ _ _ _ _ _).trans (by rw [E2_mat]; rfl)

/-! ## The reconstructions -/

section
variable (a : FVec Ideal S4096x4096 .f32) (e : FVec Ideal S4096x64 .f32) (d : FVec Ideal S64x3000 .f32) (w : FVec Ideal S3000x64 .f32)

theorem recon_mat : toMat (Host.dotGeneral dot_S4096x4096_S4096x3000_S4096x3000_1_0_0_1_n_n none a
      (Host.dotGeneral dot_S4096x64_S64x3000_S4096x3000_1_0_0_1_n_n none e d)) = mm (toMat a) (mm (toMat e) (toMat d)) := by
  rw [dot_mat3, dot_mat4]

theorem cross_mat : toMat (Host.dotGeneral dot_S4096x4096_S4096x64_S4096x64_1_0_0_1_n_n none a
      (Host.dotGeneral dot_S4096x3000_S3000x64_S4096x64_1_0_0_1_n_n none
        (Host.dotGeneral dot_S4096x4096_S4096x3000_S4096x3000_1_0_0_1_n_n none a
          (Host.dotGeneral dot_S4096x64_S64x3000_S4096x3000_1_0_0_1_n_n none e d)) w))
    = mm (toMat a) (mm (mm (toMat a) (mm (toMat e) (toMat d))) (toMat w)) := by
  rw [dot_mat1, dot_mat2, recon_mat]
end

/-- A run of the reference ends with each result as `Model` has it, and the arguments unchanged. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = ofMat ((args (launchContents m c)).E1 wR)
      ∧ r.2.mem ((c.tc : Thread nD τ).loc main_v57) = ofMat ((args (launchContents m c)).E2 wR)
      ∧ r.2.mem ((c.tc : Thread nD τ).loc main_v78) = ofMat ((args (launchContents m c)).C wR)
      ∧ r.2.mem ((c.tc : Thread nD τ).loc main_v86) = ofMat (args (launchContents m c)).l1R
      ∧ r.2.mem ((c.tc : Thread nD τ).loc main_v90) = ofMat (args (launchContents m c)).l2R
      ∧ r.2.mem ((c.tc : Thread nD τ).loc main_v80) = ofMat (args (launchContents m c)).r1R
      ∧ r.2.mem ((c.tc : Thread nD τ).loc main_v82) = ofMat (args (launchContents m c)).r2R
      ∧ r.2.mem ((c.tc : Thread nD τ).loc main_v35) = ofMat ((args (launchContents m c)).al1 wR)
      ∧ r.2.mem ((c.tc : Thread nD τ).loc main_v56) = ofMat ((args (launchContents m c)).al2 wR)
      ∧ r.2.mem ((c.tc : Thread nD τ).loc main_v77) = ofMat ((args (launchContents m c)).al12 wR)
      ∧ r.2.mem ((c.tc : Thread nD τ).loc main_v114) = shapeCast S4096 (ofMat ((args (launchContents m c)).s1 wR) : FVec Ideal S4096x1 .f32) shapeCasts_S4096x1_S4096
      ∧ r.2.mem ((c.tc : Thread nD τ).loc main_v138) = shapeCast S4096 (ofMat ((args (launchContents m c)).s2 wR) : FVec Ideal S4096x1 .f32) shapeCasts_S4096x1_S4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) := by
  refine (θ_run defs _ _).mono (fun r h c => ?_) (run m ρ)
  obtain ⟨h0, h1, h2, h3, h4, h5, h6, h7, h8, h9, h10, h11, hargs⟩ := h c
  refine ⟨h0.trans (eq_ofMat' (E1_mat _)), h1.trans (eq_ofMat' (E2_mat _)), h2.trans (eq_ofMat' (C_mat _)),
    h3.trans (eq_ofMat' ((cross_mat _ _ _ _).trans ?_)), h4.trans (eq_ofMat' ((cross_mat _ _ _ _).trans ?_)),
    h5.trans (eq_ofMat' ((recon_mat _ _ _).trans ?_)), h6.trans (eq_ofMat' ((recon_mat _ _ _).trans ?_)),
    h7.trans (eq_ofMat' (al1_mat _)), h8.trans (eq_ofMat' (al2_mat _)), h9.trans (eq_ofMat' (al12_mat _)),
    h10.trans (congrArg (fun v => shapeCast S4096 v shapeCasts_S4096x1_S4096) (eq_ofMat' (s1_mat _))),
    h11.trans (congrArg (fun v => shapeCast S4096 v shapeCasts_S4096x1_S4096) (eq_ofMat' (s2_mat _))), hargs⟩
  · rw [E1_mat]; rfl
  · rw [E2_mat]; rfl
  · rw [C_mat]; rfl
  · rw [C_mat]; rfl

end Cert.ReferenceIdeal.Read
end
-- ==== Proof.KernelIdeal.Final.lean ====
/-
  What every unscoped buffer of KernelIdeal holds when a run ends: the last boundary's contents. The launch is the frame's.
-/
module

public import proofs.«01_k».proof.Proof.KernelIdeal.Frame

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the kit's implicit arguments are found by unifying its conclusion with this one, which takes unfolding plain
-- definitions in a metavariable's type
set_option backward.isDefEq.respectTransparency.types false in
/-- Every weakly fair run of the kernel ends, and ends with each unscoped buffer holding the last boundary's contents. -/
theorem final : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Cert.KernelIdeal.Whole

end
-- ==== Proof.Equation.lean ====
/-
  The equation: the kernel's twelve results, over its arguments, and the reference's, over arguments that agree, are the
  same arrays when the arguments the precondition names are real.
-/
module
public import proofs.«01_k».proof.Proof.Finite
public import proofs.«01_k».proof.Proof.RefValue
public import proofs.«01_k».proof.Proof.KernelIdeal.Final
@[expose] public section
set_option maxRecDepth 16384
noncomputable section
namespace Cert.KernelIdeal.Chain
open Idealize.ShloMosaic Idealize.ShloMosaic.TcCoe Idealize.ShloMosaic.StableHlo Idealize.SL.Sem
open Cert.Mat Cert.KernelIdeal.Gen Cert.KernelIdeal.Whole

/-- A buffer of the kernel that the last boundary holds as `v` ends as `v`. -/
theorem read {m : (ℓ : Loc nD τ sig) → Buf (Elt Ideal) ℓ} {ρ : Dev nD → PrngReg} {s : (ℓ : Loc nD τ sig) → Buf (Elt Ideal) ℓ}
    {c : Dev nD} (h : ∀ b ∈ Pipeline.ucRefs τ sig, s (((c : Thread nD τ)).1, b) = W7 m ρ c b) (r : Ref sig .tc)
    (hr : ¬ (Proc.devRef .tc r : DevRef τ sig).isScoped = true) {v : Buf (Elt Ideal) ((c.tc : Thread nD τ).loc r)}
    (hv : W7 m ρ c (Proc.devRef .tc r) = v) : s ((c.tc : Thread nD τ).loc r) = v :=
  (h _ (mem_uc r hr)).trans hv

end Cert.KernelIdeal.Chain

namespace Cert.Equation
open Idealize.ShloMosaic Idealize.ShloMosaic.TcCoe Idealize.ShloMosaic.StableHlo Idealize.SL.Sem Cert.Mat

/-- `Cert.algebraic_KernelIdeal_ReferenceIdeal_pre_finite_inputs`: the kernel's twelve results are the reference's. -/
theorem algebraic (hP : Cert.Pre_finite_inputs.Facts) :
    Cert.algebraic_KernelIdeal_ReferenceIdeal_pre_finite_inputs (hKernelIdeal := Cert.KernelIdeal.Gen.facts)
      (hReferenceIdeal := Cert.ReferenceIdeal.Gen.facts) (hPre_finite_inputs := hP) := by
  intro m ρ m' ρ' hpre hagree
  -- the two programs' arguments are the same matrices
  have e (c : Dev Cert.KernelIdeal.nD) :
      Cert.ReferenceIdeal.Read.args (launchContents m' c) = Cert.KernelIdeal.Chain.args m c := by
    obtain ⟨h0, h1, h2, h3, h4, h5, h6, h7, h8, h9, h10, h11, h12, h13, h14, h15, h16, h17, h18, h19, h20, h21⟩ := hagree c
    exact Args.mk.injEq .. ▸ ⟨congrArg toMat h0, congrArg toMat h1, congrArg toMat h2, congrArg toMat h3, congrArg toMat h4,
      congrArg toMat h5, congrArg toMat h6, congrArg toMat h7, congrArg toMat h8, congrArg toMat h9, congrArg toMat h10,
      congrArg toMat h11, congrArg toMat h12, congrArg toMat h13, congrArg toMat h14, congrArg toMat h15,
      congrArg (fun v => tr (toMat v)) h16, congrArg rowOf h17, congrArg (fun v => tr (toMat v)) h18, congrArg rowOf h19,
      congrArg (fun v => tr (toMat v)) h20, congrArg rowOf h21⟩
  have real (c : Dev Cert.KernelIdeal.nD) := Cert.KernelIdeal.Chain.args_real hP m hpre c
  refine ⟨fun c => Cert.KernelIdeal.Whole.W7 m ρ c (Proc.devRef .tc Cert.KernelIdeal.main_v8_0),
    fun c => Cert.KernelIdeal.Whole.W7 m ρ c (Proc.devRef .tc Cert.KernelIdeal.main_v8_1),
    fun c => Cert.KernelIdeal.Whole.W7 m ρ c (Proc.devRef .tc Cert.KernelIdeal.main_v8_2),
    fun c => Cert.KernelIdeal.Whole.W7 m ρ c (Proc.devRef .tc Cert.KernelIdeal.main_v10_0),
    fun c => Cert.KernelIdeal.Whole.W7 m ρ c (Proc.devRef .tc Cert.KernelIdeal.main_v10_1),
    fun c => Cert.KernelIdeal.Whole.W7 m ρ c (Proc.devRef .tc Cert.KernelIdeal.main_v9_0),
    fun c => Cert.KernelIdeal.Whole.W7 m ρ c (Proc.devRef .tc Cert.KernelIdeal.main_v9_1),
    fun c => Cert.KernelIdeal.Whole.W7 m ρ c (Proc.devRef .tc Cert.KernelIdeal.main_v8_3),
    fun c => Cert.KernelIdeal.Whole.W7 m ρ c (Proc.devRef .tc Cert.KernelIdeal.main_v8_4),
    fun c => Cert.KernelIdeal.Whole.W7 m ρ c (Proc.devRef .tc Cert.KernelIdeal.main_v8_5),
    fun c => Cert.KernelIdeal.Whole.W7 m ρ c (Proc.devRef .tc Cert.KernelIdeal.main_v11),
    fun c => Cert.KernelIdeal.Whole.W7 m ρ c (Proc.devRef .tc Cert.KernelIdeal.main_v12), ?_, ?_⟩
  · refine (θ_run Cert.KernelIdeal.defs _ _).mono (fun r h c => ?_) (Cert.KernelIdeal.Whole.final m ρ)
    have rd := @Cert.KernelIdeal.Chain.read m ρ r.2.mem c (h c)
    exact ⟨rd _ (by decide) rfl, rd _ (by decide) rfl, rd _ (by decide) rfl, rd _ (by decide) rfl, rd _ (by decide) rfl,
      rd _ (by decide) rfl, rd _ (by decide) rfl, rd _ (by decide) rfl, rd _ (by decide) rfl, rd _ (by decide) rfl,
      rd _ (by decide) rfl, rd _ (by decide) rfl,
      rd _ (by decide) (Cert.KernelIdeal.Whole.W7_main_arg0 m ρ c), rd _ (by decide) (Cert.KernelIdeal.Whole.W7_main_arg1 m ρ c),
      rd _ (by decide) (Cert.KernelIdeal.Whole.W7_main_arg2 m ρ c), rd _ (by decide) (Cert.KernelIdeal.Whole.W7_main_arg3 m ρ c),
      rd _ (by decide) (Cert.KernelIdeal.Whole.W7_main_arg4 m ρ c), rd _ (by decide) (Cert.KernelIdeal.Whole.W7_main_arg5 m ρ c),
      rd _ (by decide) (Cert.KernelIdeal.Whole.W7_main_arg6 m ρ c), rd _ (by decide) (Cert.KernelIdeal.Whole.W7_main_arg7 m ρ c),
      rd _ (by decide) (Cert.KernelIdeal.Whole.W7_main_arg8 m ρ c), rd _ (by decide) (Cert.KernelIdeal.Whole.W7_main_arg9 m ρ c),
      rd _ (by decide) (Cert.KernelIdeal.Whole.W7_main_arg10 m ρ c), rd _ (by decide) (Cert.KernelIdeal.Whole.W7_main_arg11 m ρ c),
      rd _ (by decide) (Cert.KernelIdeal.Whole.W7_main_arg12 m ρ c), rd _ (by decide) (Cert.KernelIdeal.Whole.W7_main_arg13 m ρ c),
      rd _ (by decide) (Cert.KernelIdeal.Whole.W7_main_arg14 m ρ c), rd _ (by decide) (Cert.KernelIdeal.Whole.W7_main_arg15 m ρ c),
      rd _ (by decide) (Cert.KernelIdeal.Whole.W7_main_arg16 m ρ c), rd _ (by decide) (Cert.KernelIdeal.Whole.W7_main_arg17 m ρ c),
      rd _ (by decide) (Cert.KernelIdeal.Whole.W7_main_arg18 m ρ c), rd _ (by decide) (Cert.KernelIdeal.Whole.W7_main_arg19 m ρ c),
      rd _ (by decide) (Cert.KernelIdeal.Whole.W7_main_arg20 m ρ c), rd _ (by decide) (Cert.KernelIdeal.Whole.W7_main_arg21 m ρ c)⟩
  · refine (θ_run Cert.ReferenceIdeal.defs _ _).mono (fun r h c => ?_) (Cert.ReferenceIdeal.Read.results m' ρ')
    obtain ⟨k0, k1, k2, k3, k4, k5, k6, k7, k8, k9, k10, k11⟩ := Cert.KernelIdeal.Chain.results m ρ c
    obtain ⟨h0, h1, h2, h3, h4, h5, h6, h7, h8, h9, h10, h11, hargs⟩ := h c
    rw [e c] at h0 h1 h2 h3 h4 h5 h6 h7 h8 h9 h10 h11
    have ha := real c
    rw [← Args.E1_eq ha] at h0; rw [← Args.E2_eq ha] at h1; rw [← Args.C_eq ha] at h2
    rw [← Args.l1_eq ha] at h3; rw [← Args.l2_eq ha] at h4
    rw [← Args.r1_eq ha] at h5; rw [← Args.r2_eq ha] at h6
    rw [← Args.al1_eq ha] at h7; rw [← Args.al2_eq ha] at h8; rw [← Args.al12_eq ha] at h9
    rw [← Args.s1_eq ha] at h10; rw [← Args.s2_eq ha] at h11
    exact ⟨h0.trans k0.symm, h1.trans k1.symm, h2.trans k2.symm, h3.trans k3.symm, h4.trans k4.symm, h5.trans k5.symm,
      h6.trans k6.symm, h7.trans k7.symm, h8.trans k8.symm, h9.trans k9.symm, h10.trans k10.symm, h11.trans k11.symm, hargs⟩

end Cert.Equation

end
-- ==== Proof.lean ====
/-
  The proof of `Cert.Claim` (proofs.«01_k».proof.Defs): the frames of the kernel, of its idealization and of the reference,
  the idealization's provenance, and the equality of the kernel's twelve results with the reference's.
-/
module

public import proofs.«01_k».proof.Defs
public import proofs.«01_k».proof.Proof.Kernel.Frame
public import proofs.«01_k».proof.Proof.KernelIdeal.Frame
public import proofs.«01_k».proof.Proof.Equation
public import Idealize.ShloMosaic.Lib.Quiescent

@[expose] public section

noncomputable section

namespace Cert.Proof

open Idealize.ShloMosaic Idealize.SL.Sem

/-- The kernel as printed runs, leaves its arguments and its semaphores as they were. -/
theorem frame_kernel : Cert.quiescent_Kernel (hKernel := Cert.Kernel.Gen.facts) := fun m ρ _ => Cert.Kernel.Whole.frame m ρ

/-- The idealized kernel likewise. -/
theorem frame_ideal : Cert.quiescent_KernelIdeal (hKernelIdeal := Cert.KernelIdeal.Gen.facts) :=
  fun m ρ _ => Cert.KernelIdeal.Whole.frame m ρ

/-- The reference likewise: it is a chain of host operations and declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2.2.2.2.2.2.2.2, sem_eq_zero_of_no_sems (by decide) r.2⟩)
    (Cert.ReferenceIdeal.Read.results m ρ)

/-- The certificate's claim. -/
theorem claim : Cert.Claim :=
  ⟨Cert.Kernel.Gen.facts, Cert.KernelIdeal.Gen.facts, Cert.ReferenceIdeal.Gen.facts, Cert.Pre_finite_inputs.facts,
    frame_kernel, frame_ideal, fun m ρ _ => frame_ideal m ρ trivial, frame_reference, fun m ρ _ => frame_reference m ρ trivial,
    trivial, Cert.Equation.algebraic Cert.Pre_finite_inputs.facts⟩

end Cert.Proof

end
